-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S12x64x5120 : Shape := ⟨3, ![12, 64, 5120]⟩
abbrev S12 : Shape := ⟨1, ![12]⟩
abbrev S12x3072x5120 : Shape := ⟨3, ![12, 3072, 5120]⟩
abbrev S12x3072x160 : Shape := ⟨3, ![12, 3072, 160]⟩
abbrev S_ : Shape := ⟨0, ![]⟩

class Facts : Prop where
  bcast_S_S12x64x5120 : S_.BroadcastsInDim S12x64x5120 (![] : Fin 0 → Fin S12x64x5120.rank)
  bcast_S_S12 : S_.BroadcastsInDim S12 (![] : Fin 0 → Fin S12.rank)
  bcast_S_S12x3072x160 : S_.BroadcastsInDim S12x3072x160 (![] : Fin 0 → Fin S12x3072x160.rank)

variable [Facts]

def fn {F : FTy → Type} [FloatOps F] (main_arg0 : FVec F S12x64x5120 .bf16) (main_arg1 : IVec S12 32) (main_arg2 : FVec F S12x3072x5120 .fp8e4m3) (main_arg3 : IVec S12x3072x160 8) : IVec S12x64x5120 1 × IVec S12 1 × IVec S12x3072x160 1 :=
  let main_v0 : FVec F S12x64x5120 .bf16 := Host.absf main_arg0
  let main_cst : FVec F S_ .bf16 := constant S_ .bf16 0x7F7F#16
  let main_v1 : FVec F S12x64x5120 .bf16 := broadcastInDim S12x64x5120 ![] bcast_S_S12x64x5120 main_cst
  let main_v2 : IVec S12x64x5120 1 := cmpf .ole main_v0 main_v1
  let main_c : IVec S_ 32 := constantI S_ 32 0#32
  let main_v3 : IVec S12 32 := broadcastInDim S12 ![] bcast_S_S12 main_c
  let main_v4 : IVec S12 1 := cmpi .sge main_arg1 main_v3
  let main_c_0 : IVec S_ 8 := constantI S_ 8 1#8
  let main_v5 : IVec S12x3072x160 8 := broadcastInDim S12x3072x160 ![] bcast_S_S12x3072x160 main_c_0
  let main_v6 : IVec S12x3072x160 1 := cmpi .uge main_arg3 main_v5
  let main_c_1 : IVec S_ 8 := constantI S_ 8 254#8
  let main_v7 : IVec S12x3072x160 8 := broadcastInDim S12x3072x160 ![] bcast_S_S12x3072x160 main_c_1
  let main_v8 : IVec S12x3072x160 1 := cmpi .ule main_arg3 main_v7
  let main_v9 : IVec S12x3072x160 1 := andi main_v6 main_v8
  (main_v2, main_v4, main_v9)
-- ==== Kernel.lean ====
abbrev S12x64x5120 : Shape := ⟨3, ![12, 64, 5120]⟩
abbrev S12 : Shape := ⟨1, ![12]⟩
abbrev S12x3072x5120 : Shape := ⟨3, ![12, 3072, 5120]⟩
abbrev S12x3072x160 : Shape := ⟨3, ![12, 3072, 160]⟩
abbrev S12x160x3072 : Shape := ⟨3, ![12, 160, 3072]⟩
abbrev S12x64x3072 : Shape := ⟨3, ![12, 64, 3072]⟩
abbrev S1x64x5120 : Shape := ⟨3, ![1, 64, 5120]⟩
abbrev S1x1024x5120 : Shape := ⟨3, ![1, 1024, 5120]⟩
abbrev S1 : Shape := ⟨1, ![1]⟩
abbrev S1x160x1024 : Shape := ⟨3, ![1, 160, 1024]⟩
abbrev S1x64x1024 : Shape := ⟨3, ![1, 64, 1024]⟩
abbrev S64x5120 : Shape := ⟨2, ![64, 5120]⟩
abbrev S160x1024 : Shape := ⟨2, ![160, 1024]⟩
abbrev S64x128 : Shape := ⟨2, ![64, 128]⟩
abbrev S128x128 : Shape := ⟨2, ![128, 128]⟩
abbrev S32x128 : Shape := ⟨2, ![32, 128]⟩
abbrev S128 : Shape := ⟨1, ![128]⟩
abbrev S1x128 : Shape := ⟨2, ![1, 128]⟩
abbrev S64x256 : Shape := ⟨2, ![64, 256]⟩
abbrev S1x128x128 : Shape := ⟨3, ![1, 128, 128]⟩
abbrev S16x128 : Shape := ⟨2, ![16, 128]⟩
abbrev S128x256 : Shape := ⟨2, ![128, 256]⟩
abbrev S1024x256 : Shape := ⟨2, ![1024, 256]⟩
abbrev S64x1024 : Shape := ⟨2, ![64, 1024]⟩
abbrev S1x64x256 : Shape := ⟨3, ![1, 64, 256]⟩

abbrev nBuf : Space → Nat
  | .hbm => 5
  | .vmem => 10
  | .smem => 1
  | _ => 0

abbrev bufTy : (tb : Table) → Fin (tcTables nBuf tb) → BufTy
  | .hbm, ⟨0, _⟩ => ⟨S12x64x5120, .bf16⟩
  | .hbm, ⟨1, _⟩ => ⟨S12x3072x5120, .fp8e4m3⟩
  | .hbm, ⟨2, _⟩ => ⟨S12x3072x160, .i8⟩
  | .hbm, ⟨3, _⟩ => ⟨S12x160x3072, .i8⟩
  | .hbm, ⟨4, _⟩ => ⟨S12x64x3072, .bf16⟩
  | .local _ .vmem, ⟨0, _⟩ => ⟨S1x64x5120, .bf16⟩
  | .local _ .vmem, ⟨1, _⟩ => ⟨S1x64x5120, .bf16⟩
  | .local _ .vmem, ⟨2, _⟩ => ⟨S1x1024x5120, .fp8e4m3⟩
  | .local _ .vmem, ⟨3, _⟩ => ⟨S1x1024x5120, .fp8e4m3⟩
  | .local _ .vmem, ⟨4, _⟩ => ⟨S1x160x1024, .i8⟩
  | .local _ .vmem, ⟨5, _⟩ => ⟨S1x160x1024, .i8⟩
  | .local _ .vmem, ⟨6, _⟩ => ⟨S1x64x1024, .bf16⟩
  | .local _ .vmem, ⟨7, _⟩ => ⟨S1x64x1024, .bf16⟩
  | .local _ .vmem, ⟨8, _⟩ => ⟨S64x5120, .bf16⟩
  | .local _ .vmem, ⟨9, _⟩ => ⟨S160x1024, .i32⟩
  | .local _ .smem, ⟨0, _⟩ => ⟨S12, .i32⟩
  | _, _ => ⟨S12x64x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 3], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v61 : Index := Scalar.indexCast arg0
  ![v61.toNat]
def k0_cond3 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

@[reducible] def k0_t1_loop : Scf.Loop 32 :=
  let c0_i32_12 : BitVec 32 := 0#32
  let c20_i32 : BitVec 32 := 20#32
  let v23 : BitVec 32 := Scalar.addi c0_i32_12 c20_i32
  let c1_i32_13 : BitVec 32 := 1#32
  ⟨c0_i32_12, v23, c1_i32_13⟩
def k0_mult1 (k0_t1 : Fin k0_t1_loop.trips) : BitVec 32 :=
  let c2_i32 : BitVec 32 := 2#32
  let c0_i32_12 : BitVec 32 := 0#32
  let c1_i32_13 : BitVec 32 := 1#32
  let arg9 : BitVec 32 := Scf.iv c0_i32_12 c1_i32_13 k0_t1
  let v24 : BitVec 32 := Scalar.muli c2_i32 arg9
  let c128_i32 : BitVec 32 := 128#32
  let v25 : BitVec 32 := Scalar.muli v24 c128_i32
  v25
def k0_mult2 (k0_t1 : Fin k0_t1_loop.trips) : BitVec 32 :=
  let c2_i32_15 : BitVec 32 := 2#32
  let c0_i32_12 : BitVec 32 := 0#32
  let c1_i32_13 : BitVec 32 := 1#32
  let arg9 : BitVec 32 := Scf.iv c0_i32_12 c1_i32_13 k0_t1
  let v27 : BitVec 32 := Scalar.muli c2_i32_15 arg9
  let c1_i32_16 : BitVec 32 := 1#32
  let v28 : BitVec 32 := Scalar.addi v27 c1_i32_16
  let c128_i32_17 : BitVec 32 := 128#32
  let v29 : BitVec 32 := Scalar.muli v28 c128_i32_17
  v29
def k0_off2 (k0_t1 : Fin k0_t1_loop.trips) : Fin 2 → Nat :=
  let c0_20 : Index := 0#32
  let c2_i32 : BitVec 32 := 2#32
  let c0_i32_12 : BitVec 32 := 0#32
  let c1_i32_13 : BitVec 32 := 1#32
  let arg9 : BitVec 32 := Scf.iv c0_i32_12 c1_i32_13 k0_t1
  let v24 : BitVec 32 := Scalar.muli c2_i32 arg9
  let c128_i32 : BitVec 32 := 128#32
  let v25 : BitVec 32 := Scalar.muli v24 c128_i32
  let v26 : BitVec 32 := v25
  let v33 : Index := Scalar.indexCast v26
  ![0, v33.toNat]
def k0_off3 (k0_t1 : Fin k0_t1_loop.trips) : Fin 2 → Nat :=
  let c0_23 : Index := 0#32
  let c2_i32_15 : BitVec 32 := 2#32
  let c0_i32_12 : BitVec 32 := 0#32
  let c1_i32_13 : BitVec 32 := 1#32
  let arg9 : BitVec 32 := Scf.iv c0_i32_12 c1_i32_13 k0_t1
  let v27 : BitVec 32 := Scalar.muli c2_i32_15 arg9
  let c1_i32_16 : BitVec 32 := 1#32
  let v28 : BitVec 32 := Scalar.addi v27 c1_i32_16
  let c128_i32_17 : BitVec 32 := 128#32
  let v29 : BitVec 32 := Scalar.muli v28 c128_i32_17
  let v30 : BitVec 32 := v29
  let v37 : Index := Scalar.indexCast v30
  ![0, v37.toNat]
@[reducible] def k0_t2_loop : Scf.Loop 32 :=
  let c0_i32_9 : BitVec 32 := 0#32
  let c4_i32 : BitVec 32 := 4#32
  let v22 : BitVec 32 := Scalar.addi c0_i32_9 c4_i32
  let c1_i32 : BitVec 32 := 1#32
  ⟨c0_i32_9, v22, c1_i32⟩
@[reducible] def k0_t3_loop : Scf.Loop 32 :=
  let c0_i32_11 : BitVec 32 := 0#32
  let c5_i32 : BitVec 32 := 5#32
  let v24 : BitVec 32 := Scalar.addi c0_i32_11 c5_i32
  let c1_i32_12 : BitVec 32 := 1#32
  ⟨c0_i32_11, v24, c1_i32_12⟩
def k0_mult3 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_18 : BitVec 32 := 256#32
  let v40 : BitVec 32 := Scalar.muli arg9 c256_i32_18
  let c0_i32_19 : BitVec 32 := 0#32
  let v41 : BitVec 32 := Scalar.addi v40 c0_i32_19
  v41
def k0_mult4 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32 : BitVec 32 := 1024#32
  let v38 : BitVec 32 := Scalar.muli arg10 c1024_i32
  let c0_i32_17 : BitVec 32 := 0#32
  let v39 : BitVec 32 := Scalar.addi v38 c0_i32_17
  v39
def k0_off4 (k0_t2 : Fin k0_t2_loop.trips) (k0_t3 : Fin k0_t3_loop.trips) (c0_i32_19 : BitVec 32) (c0_i32_17 : BitVec 32) : Fin 3 → Nat :=
  let c0_20 : Index := 0#32
  let c0_i32_9 : BitVec 32 := 0#32
  let c1_i32 : BitVec 32 := 1#32
  let arg9 : BitVec 32 := Scf.iv c0_i32_9 c1_i32 k0_t2
  let c256_i32_18 : BitVec 32 := 256#32
  let v40 : BitVec 32 := Scalar.muli arg9 c256_i32_18
  let v41 : BitVec 32 := Scalar.addi v40 c0_i32_19
  let v42 : BitVec 32 := v41
  let v44 : Index := Scalar.indexCast v42
  let c0_i32_11 : BitVec 32 := 0#32
  let c1_i32_12 : BitVec 32 := 1#32
  let arg10 : BitVec 32 := Scf.iv c0_i32_11 c1_i32_12 k0_t3
  let c1024_i32 : BitVec 32 := 1024#32
  let v38 : BitVec 32 := Scalar.muli arg10 c1024_i32
  let v39 : BitVec 32 := Scalar.addi v38 c0_i32_17
  let v43 : BitVec 32 := v39
  let v45 : Index := Scalar.indexCast v43
  ![0, v44.toNat, v45.toNat]
def k0_off5 (k0_t2 : Fin k0_t2_loop.trips) (k0_t3 : Fin k0_t3_loop.trips) (c0_i32_17 : BitVec 32) (c0_i32_27 : BitVec 32) (c0_i32_19 : BitVec 32) : Fin 2 → Nat :=
  let c0_i32_11 : BitVec 32 := 0#32
  let c1_i32_12 : BitVec 32 := 1#32
  let arg10 : BitVec 32 := Scf.iv c0_i32_11 c1_i32_12 k0_t3
  let c1024_i32 : BitVec 32 := 1024#32
  let v38 : BitVec 32 := Scalar.muli arg10 c1024_i32
  let v39 : BitVec 32 := Scalar.addi v38 c0_i32_17
  let c0_i32_21 : BitVec 32 := 0#32
  let v50 : BitVec 1 := Scalar.cmpi .sgt v39 c0_i32_21
  let v51 : BitVec 32 := Scalar.extui v50
  let c0_i32_22 : BitVec 32 := 0#32
  let v52 : BitVec 1 := Scalar.cmpi .slt v39 c0_i32_22
  let v53 : BitVec 32 := Scalar.extui v52
  let v54 : BitVec 32 := Scalar.subi v51 v53
  let c32_i32 : BitVec 32 := 32#32
  let c0_i32_23 : BitVec 32 := 0#32
  let v55 : BitVec 1 := Scalar.cmpi .sgt c32_i32 c0_i32_23
  let v56 : BitVec 32 := Scalar.extui v55
  let c0_i32_24 : BitVec 32 := 0#32
  let v57 : BitVec 1 := Scalar.cmpi .slt c32_i32 c0_i32_24
  let v58 : BitVec 32 := Scalar.extui v57
  let v59 : BitVec 32 := Scalar.subi v56 v58
  let v60 : BitVec 1 := Scalar.cmpi .ne v54 v59
  let v61 : BitVec 32 := Scalar.remsi v39 c32_i32
  let c0_i32_25 : BitVec 32 := 0#32
  let v62 : BitVec 1 := Scalar.cmpi .ne v61 c0_i32_25
  let v63 : BitVec 1 := Scalar.andi v60 v62
  let v49 : BitVec 32 := Scalar.divsi v39 c32_i32
  let c1_i32_26 : BitVec 32 := 1#32
  let v64 : BitVec 32 := Scalar.subi v49 c1_i32_26
  let v65 : BitVec 32 := Scalar.select v63 v64 v49
  let v66 : BitVec 32 := Scalar.addi v65 c0_i32_27
  let v67 : Index := Scalar.indexCast v66
  let c0_i32_9 : BitVec 32 := 0#32
  let c1_i32 : BitVec 32 := 1#32
  let arg9 : BitVec 32 := Scf.iv c0_i32_9 c1_i32 k0_t2
  let c256_i32_18 : BitVec 32 := 256#32
  let v40 : BitVec 32 := Scalar.muli arg9 c256_i32_18
  let v41 : BitVec 32 := Scalar.addi v40 c0_i32_19
  let v42 : BitVec 32 := v41
  let v68 : Index := Scalar.indexCast v42
  ![v67.toNat, v68.toNat]
def k0_mult5 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_50 : BitVec 32 := 256#32
  let v158 : BitVec 32 := Scalar.muli arg9 c256_i32_50
  let c128_i32 : BitVec 32 := 128#32
  let v159 : BitVec 32 := Scalar.addi v158 c128_i32
  v159
def k0_mult6 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32 : BitVec 32 := 1024#32
  let v38 : BitVec 32 := Scalar.muli arg10 c1024_i32
  let c0_i32_17 : BitVec 32 := 0#32
  let v39 : BitVec 32 := Scalar.addi v38 c0_i32_17
  v39
def k0_mult7 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_86 : BitVec 32 := 256#32
  let v279 : BitVec 32 := Scalar.muli arg9 c256_i32_86
  let c0_i32_87 : BitVec 32 := 0#32
  let v280 : BitVec 32 := Scalar.addi v279 c0_i32_87
  v280
def k0_mult8 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_84 : BitVec 32 := 1024#32
  let v277 : BitVec 32 := Scalar.muli arg10 c1024_i32_84
  let c128_i32_85 : BitVec 32 := 128#32
  let v278 : BitVec 32 := Scalar.addi v277 c128_i32_85
  v278
def k0_mult9 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_121 : BitVec 32 := 256#32
  let v397 : BitVec 32 := Scalar.muli arg9 c256_i32_121
  let c128_i32_122 : BitVec 32 := 128#32
  let v398 : BitVec 32 := Scalar.addi v397 c128_i32_122
  v398
def k0_mult10 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_84 : BitVec 32 := 1024#32
  let v277 : BitVec 32 := Scalar.muli arg10 c1024_i32_84
  let c128_i32_85 : BitVec 32 := 128#32
  let v278 : BitVec 32 := Scalar.addi v277 c128_i32_85
  v278
def k0_mult11 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_158 : BitVec 32 := 256#32
  let v518 : BitVec 32 := Scalar.muli arg9 c256_i32_158
  let c0_i32_159 : BitVec 32 := 0#32
  let v519 : BitVec 32 := Scalar.addi v518 c0_i32_159
  v519
def k0_mult12 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_156 : BitVec 32 := 1024#32
  let v516 : BitVec 32 := Scalar.muli arg10 c1024_i32_156
  let c256_i32_157 : BitVec 32 := 256#32
  let v517 : BitVec 32 := Scalar.addi v516 c256_i32_157
  v517
def k0_mult13 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_193 : BitVec 32 := 256#32
  let v636 : BitVec 32 := Scalar.muli arg9 c256_i32_193
  let c128_i32_194 : BitVec 32 := 128#32
  let v637 : BitVec 32 := Scalar.addi v636 c128_i32_194
  v637
def k0_mult14 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_156 : BitVec 32 := 1024#32
  let v516 : BitVec 32 := Scalar.muli arg10 c1024_i32_156
  let c256_i32_157 : BitVec 32 := 256#32
  let v517 : BitVec 32 := Scalar.addi v516 c256_i32_157
  v517
def k0_mult15 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_229 : BitVec 32 := 256#32
  let v757 : BitVec 32 := Scalar.muli arg9 c256_i32_229
  let c0_i32_230 : BitVec 32 := 0#32
  let v758 : BitVec 32 := Scalar.addi v757 c0_i32_230
  v758
def k0_mult16 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_228 : BitVec 32 := 1024#32
  let v755 : BitVec 32 := Scalar.muli arg10 c1024_i32_228
  let c384_i32 : BitVec 32 := 384#32
  let v756 : BitVec 32 := Scalar.addi v755 c384_i32
  v756
def k0_mult17 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_264 : BitVec 32 := 256#32
  let v875 : BitVec 32 := Scalar.muli arg9 c256_i32_264
  let c128_i32_265 : BitVec 32 := 128#32
  let v876 : BitVec 32 := Scalar.addi v875 c128_i32_265
  v876
def k0_mult18 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_228 : BitVec 32 := 1024#32
  let v755 : BitVec 32 := Scalar.muli arg10 c1024_i32_228
  let c384_i32 : BitVec 32 := 384#32
  let v756 : BitVec 32 := Scalar.addi v755 c384_i32
  v756
def k0_mult19 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_300 : BitVec 32 := 256#32
  let v996 : BitVec 32 := Scalar.muli arg9 c256_i32_300
  let c0_i32_301 : BitVec 32 := 0#32
  let v997 : BitVec 32 := Scalar.addi v996 c0_i32_301
  v997
def k0_mult20 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_299 : BitVec 32 := 1024#32
  let v994 : BitVec 32 := Scalar.muli arg10 c1024_i32_299
  let c512_i32 : BitVec 32 := 512#32
  let v995 : BitVec 32 := Scalar.addi v994 c512_i32
  v995
def k0_mult21 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_335 : BitVec 32 := 256#32
  let v1114 : BitVec 32 := Scalar.muli arg9 c256_i32_335
  let c128_i32_336 : BitVec 32 := 128#32
  let v1115 : BitVec 32 := Scalar.addi v1114 c128_i32_336
  v1115
def k0_mult22 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_299 : BitVec 32 := 1024#32
  let v994 : BitVec 32 := Scalar.muli arg10 c1024_i32_299
  let c512_i32 : BitVec 32 := 512#32
  let v995 : BitVec 32 := Scalar.addi v994 c512_i32
  v995
def k0_mult23 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_371 : BitVec 32 := 256#32
  let v1235 : BitVec 32 := Scalar.muli arg9 c256_i32_371
  let c0_i32_372 : BitVec 32 := 0#32
  let v1236 : BitVec 32 := Scalar.addi v1235 c0_i32_372
  v1236
def k0_mult24 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_370 : BitVec 32 := 1024#32
  let v1233 : BitVec 32 := Scalar.muli arg10 c1024_i32_370
  let c640_i32 : BitVec 32 := 640#32
  let v1234 : BitVec 32 := Scalar.addi v1233 c640_i32
  v1234
def k0_mult25 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_406 : BitVec 32 := 256#32
  let v1353 : BitVec 32 := Scalar.muli arg9 c256_i32_406
  let c128_i32_407 : BitVec 32 := 128#32
  let v1354 : BitVec 32 := Scalar.addi v1353 c128_i32_407
  v1354
def k0_mult26 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_370 : BitVec 32 := 1024#32
  let v1233 : BitVec 32 := Scalar.muli arg10 c1024_i32_370
  let c640_i32 : BitVec 32 := 640#32
  let v1234 : BitVec 32 := Scalar.addi v1233 c640_i32
  v1234
def k0_mult27 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_442 : BitVec 32 := 256#32
  let v1474 : BitVec 32 := Scalar.muli arg9 c256_i32_442
  let c0_i32_443 : BitVec 32 := 0#32
  let v1475 : BitVec 32 := Scalar.addi v1474 c0_i32_443
  v1475
def k0_mult28 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_441 : BitVec 32 := 1024#32
  let v1472 : BitVec 32 := Scalar.muli arg10 c1024_i32_441
  let c768_i32 : BitVec 32 := 768#32
  let v1473 : BitVec 32 := Scalar.addi v1472 c768_i32
  v1473
def k0_mult29 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_477 : BitVec 32 := 256#32
  let v1592 : BitVec 32 := Scalar.muli arg9 c256_i32_477
  let c128_i32_478 : BitVec 32 := 128#32
  let v1593 : BitVec 32 := Scalar.addi v1592 c128_i32_478
  v1593
def k0_mult30 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_441 : BitVec 32 := 1024#32
  let v1472 : BitVec 32 := Scalar.muli arg10 c1024_i32_441
  let c768_i32 : BitVec 32 := 768#32
  let v1473 : BitVec 32 := Scalar.addi v1472 c768_i32
  v1473
def k0_mult31 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_513 : BitVec 32 := 256#32
  let v1713 : BitVec 32 := Scalar.muli arg9 c256_i32_513
  let c0_i32_514 : BitVec 32 := 0#32
  let v1714 : BitVec 32 := Scalar.addi v1713 c0_i32_514
  v1714
def k0_mult32 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_512 : BitVec 32 := 1024#32
  let v1711 : BitVec 32 := Scalar.muli arg10 c1024_i32_512
  let c896_i32 : BitVec 32 := 896#32
  let v1712 : BitVec 32 := Scalar.addi v1711 c896_i32
  v1712
def k0_mult33 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32_548 : BitVec 32 := 256#32
  let v1831 : BitVec 32 := Scalar.muli arg9 c256_i32_548
  let c128_i32_549 : BitVec 32 := 128#32
  let v1832 : BitVec 32 := Scalar.addi v1831 c128_i32_549
  v1832
def k0_mult34 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_512 : BitVec 32 := 1024#32
  let v1711 : BitVec 32 := Scalar.muli arg10 c1024_i32_512
  let c896_i32 : BitVec 32 := 896#32
  let v1712 : BitVec 32 := Scalar.addi v1711 c896_i32
  v1712
def k0_mult35 (k0_t3 : Fin k0_t3_loop.trips) : BitVec 32 :=
  let c0_i32_11 : BitVec 32 := 0#32
  let c1_i32_12 : BitVec 32 := 1#32
  let arg10 : BitVec 32 := Scf.iv c0_i32_11 c1_i32_12 k0_t3
  let c1024_i32_583 : BitVec 32 := 1024#32
  let v1951 : BitVec 32 := Scalar.muli arg10 c1024_i32_583
  v1951
def k0_off6 (k0_t3 : Fin k0_t3_loop.trips) : Fin 2 → Nat :=
  let c0_584 : Index := 0#32
  let c0_i32_11 : BitVec 32 := 0#32
  let c1_i32_12 : BitVec 32 := 1#32
  let arg10 : BitVec 32 := Scf.iv c0_i32_11 c1_i32_12 k0_t3
  let c1024_i32_583 : BitVec 32 := 1024#32
  let v1951 : BitVec 32 := Scalar.muli arg10 c1024_i32_583
  let v1952 : BitVec 32 := v1951
  let v1953 : Index := Scalar.indexCast v1952
  ![0, v1953.toNat]
def k0_mult36 (k0_t2 : Fin k0_t2_loop.trips) : BitVec 32 :=
  let c0_i32_9 : BitVec 32 := 0#32
  let c1_i32 : BitVec 32 := 1#32
  let arg9 : BitVec 32 := Scf.iv c0_i32_9 c1_i32 k0_t2
  let c256_i32 : BitVec 32 := 256#32
  let v32 : BitVec 32 := Scalar.muli arg9 c256_i32
  v32
def k0_off7 (k0_t2 : Fin k0_t2_loop.trips) : Fin 3 → Nat :=
  let c0_15 : Index := 0#32
  let c0_16 : Index := 0#32
  let c0_i32_9 : BitVec 32 := 0#32
  let c1_i32 : BitVec 32 := 1#32
  let arg9 : BitVec 32 := Scf.iv c0_i32_9 c1_i32 k0_t2
  let c256_i32 : BitVec 32 := 256#32
  let v32 : BitVec 32 := Scalar.muli arg9 c256_i32
  let v33 : BitVec 32 := v32
  let v34 : Index := Scalar.indexCast v33
  ![0, 0, v34.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sgt v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (inb_S12_S1_0 : ∀ a, (![0] : Fin 1 → Nat) a + S1.size a ≤ S12.size a) (numel1_S1 : S1.numel = 1) (inb_S12_S1_1 : ∀ a, (![1] : Fin 1 → Nat) a + S1.size a ≤ S12.size a) (inb_S12_S1_2 : ∀ a, (![2] : Fin 1 → Nat) a + S1.size a ≤ S12.size a) (inb_S12_S1_3 : ∀ a, (![3] : Fin 1 → Nat) a + S1.size a ≤ S12.size a) (inb_S12_S1_4 : ∀ a, (![4] : Fin 1 → Nat) a + S1.size a ≤ S12.size a) (inb_S12_S1_5 : ∀ a, (![5] : Fin 1 → Nat) a + S1.size a ≤ S12.size a) (inb_S12_S1_6 : ∀ a, (![6] : Fin 1 → Nat) a + S1.size a ≤ S12.size a) (inb_S12_S1_7 : ∀ a, (![7] : Fin 1 → Nat) a + S1.size a ≤ S12.size a) (inb_S12_S1_8 : ∀ a, (![8] : Fin 1 → Nat) a + S1.size a ≤ S12.size a) (inb_S12_S1_9 : ∀ a, (![9] : Fin 1 → Nat) a + S1.size a ≤ S12.size a) (inb_S12_S1_10 : ∀ a, (![10] : Fin 1 → Nat) a + S1.size a ≤ S12.size a) (inb_S12_S1_11 : ∀ a, (![11] : Fin 1 → Nat) a + S1.size a ≤ S12.size a) (k0_off1_inb : ∀ i : grid0.Coords, ∀ a, (k0_off1 i) a + S1.size a ≤ S12.size a) (pf : pre0.Contents (Elt F)) (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c0 : Index := 0#32
  let v1 : BitVec 32 := pf.at 0 (Rect.unit (s := S12) ![0] S1.size inb_S12_S1_0) numel1_S1
  let c0_i32_0 : BitVec 32 := 0#32
  let v2 : BitVec 1 := Scalar.cmpi .sgt v1 c0_i32_0
  let v3 : BitVec 1 := Scalar.andi v0 v2
  let c0_i32_1 : BitVec 32 := 0#32
  let c_m1_i32 : BitVec 32 := 4294967295#32
  let v4 : BitVec 32 := Scalar.select v3 c0_i32_1 c_m1_i32
  let c1_i32 : BitVec 32 := 1#32
  let v5 : BitVec 1 := Scalar.cmpi .sge arg0 c1_i32
  let c1 : Index := 1#32
  let v6 : BitVec 32 := pf.at 0 (Rect.unit (s := S12) ![1] S1.size inb_S12_S1_1) numel1_S1
  let c0_i32_2 : BitVec 32 := 0#32
  let v7 : BitVec 1 := Scalar.cmpi .sgt v6 c0_i32_2
  let v8 : BitVec 1 := Scalar.andi v5 v7
  let c1_i32_3 : BitVec 32 := 1#32
  let v9 : BitVec 32 := Scalar.select v8 c1_i32_3 v4
  let c2_i32 : BitVec 32 := 2#32
  let v10 : BitVec 1 := Scalar.cmpi .sge arg0 c2_i32
  let c2 : Index := 2#32
  let v11 : BitVec 32 := pf.at 0 (Rect.unit (s := S12) ![2] S1.size inb_S12_S1_2) numel1_S1
  let c0_i32_4 : BitVec 32 := 0#32
  let v12 : BitVec 1 := Scalar.cmpi .sgt v11 c0_i32_4
  let v13 : BitVec 1 := Scalar.andi v10 v12
  let c2_i32_5 : BitVec 32 := 2#32
  let v14 : BitVec 32 := Scalar.select v13 c2_i32_5 v9
  let c3_i32 : BitVec 32 := 3#32
  let v15 : BitVec 1 := Scalar.cmpi .sge arg0 c3_i32
  let c3 : Index := 3#32
  let v16 : BitVec 32 := pf.at 0 (Rect.unit (s := S12) ![3] S1.size inb_S12_S1_3) numel1_S1
  let c0_i32_6 : BitVec 32 := 0#32
  let v17 : BitVec 1 := Scalar.cmpi .sgt v16 c0_i32_6
  let v18 : BitVec 1 := Scalar.andi v15 v17
  let c3_i32_7 : BitVec 32 := 3#32
  let v19 : BitVec 32 := Scalar.select v18 c3_i32_7 v14
  let c4_i32 : BitVec 32 := 4#32
  let v20 : BitVec 1 := Scalar.cmpi .sge arg0 c4_i32
  let c4 : Index := 4#32
  let v21 : BitVec 32 := pf.at 0 (Rect.unit (s := S12) ![4] S1.size inb_S12_S1_4) numel1_S1
  let c0_i32_8 : BitVec 32 := 0#32
  let v22 : BitVec 1 := Scalar.cmpi .sgt v21 c0_i32_8
  let v23 : BitVec 1 := Scalar.andi v20 v22
  let c4_i32_9 : BitVec 32 := 4#32
  let v24 : BitVec 32 := Scalar.select v23 c4_i32_9 v19
  let c5_i32 : BitVec 32 := 5#32
  let v25 : BitVec 1 := Scalar.cmpi .sge arg0 c5_i32
  let c5 : Index := 5#32
  let v26 : BitVec 32 := pf.at 0 (Rect.unit (s := S12) ![5] S1.size inb_S12_S1_5) numel1_S1
  let c0_i32_10 : BitVec 32 := 0#32
  let v27 : BitVec 1 := Scalar.cmpi .sgt v26 c0_i32_10
  let v28 : BitVec 1 := Scalar.andi v25 v27
  let c5_i32_11 : BitVec 32 := 5#32
  let v29 : BitVec 32 := Scalar.select v28 c5_i32_11 v24
  let c6_i32 : BitVec 32 := 6#32
  let v30 : BitVec 1 := Scalar.cmpi .sge arg0 c6_i32
  let c6 : Index := 6#32
  let v31 : BitVec 32 := pf.at 0 (Rect.unit (s := S12) ![6] S1.size inb_S12_S1_6) numel1_S1
  let c0_i32_12 : BitVec 32 := 0#32
  let v32 : BitVec 1 := Scalar.cmpi .sgt v31 c0_i32_12
  let v33 : BitVec 1 := Scalar.andi v30 v32
  let c6_i32_13 : BitVec 32 := 6#32
  let v34 : BitVec 32 := Scalar.select v33 c6_i32_13 v29
  let c7_i32 : BitVec 32 := 7#32
  let v35 : BitVec 1 := Scalar.cmpi .sge arg0 c7_i32
  let c7 : Index := 7#32
  let v36 : BitVec 32 := pf.at 0 (Rect.unit (s := S12) ![7] S1.size inb_S12_S1_7) numel1_S1
  let c0_i32_14 : BitVec 32 := 0#32
  let v37 : BitVec 1 := Scalar.cmpi .sgt v36 c0_i32_14
  let v38 : BitVec 1 := Scalar.andi v35 v37
  let c7_i32_15 : BitVec 32 := 7#32
  let v39 : BitVec 32 := Scalar.select v38 c7_i32_15 v34
  let c8_i32 : BitVec 32 := 8#32
  let v40 : BitVec 1 := Scalar.cmpi .sge arg0 c8_i32
  let c8 : Index := 8#32
  let v41 : BitVec 32 := pf.at 0 (Rect.unit (s := S12) ![8] S1.size inb_S12_S1_8) numel1_S1
  let c0_i32_16 : BitVec 32 := 0#32
  let v42 : BitVec 1 := Scalar.cmpi .sgt v41 c0_i32_16
  let v43 : BitVec 1 := Scalar.andi v40 v42
  let c8_i32_17 : BitVec 32 := 8#32
  let v44 : BitVec 32 := Scalar.select v43 c8_i32_17 v39
  let c9_i32 : BitVec 32 := 9#32
  let v45 : BitVec 1 := Scalar.cmpi .sge arg0 c9_i32
  let c9 : Index := 9#32
  let v46 : BitVec 32 := pf.at 0 (Rect.unit (s := S12) ![9] S1.size inb_S12_S1_9) numel1_S1
  let c0_i32_18 : BitVec 32 := 0#32
  let v47 : BitVec 1 := Scalar.cmpi .sgt v46 c0_i32_18
  let v48 : BitVec 1 := Scalar.andi v45 v47
  let c9_i32_19 : BitVec 32 := 9#32
  let v49 : BitVec 32 := Scalar.select v48 c9_i32_19 v44
  let c10_i32 : BitVec 32 := 10#32
  let v50 : BitVec 1 := Scalar.cmpi .sge arg0 c10_i32
  let c10 : Index := 10#32
  let v51 : BitVec 32 := pf.at 0 (Rect.unit (s := S12) ![10] S1.size inb_S12_S1_10) numel1_S1
  let c0_i32_20 : BitVec 32 := 0#32
  let v52 : BitVec 1 := Scalar.cmpi .sgt v51 c0_i32_20
  let v53 : BitVec 1 := Scalar.andi v50 v52
  let c10_i32_21 : BitVec 32 := 10#32
  let v54 : BitVec 32 := Scalar.select v53 c10_i32_21 v49
  let c11_i32 : BitVec 32 := 11#32
  let v55 : BitVec 1 := Scalar.cmpi .sge arg0 c11_i32
  let c11 : Index := 11#32
  let v56 : BitVec 32 := pf.at 0 (Rect.unit (s := S12) ![11] S1.size inb_S12_S1_11) numel1_S1
  let c0_i32_22 : BitVec 32 := 0#32
  let v57 : BitVec 1 := Scalar.cmpi .sgt v56 c0_i32_22
  let v58 : BitVec 1 := Scalar.andi v55 v57
  let c11_i32_23 : BitVec 32 := 11#32
  let v59 : BitVec 32 := Scalar.select v58 c11_i32_23 v54
  let c0_i32_24 : BitVec 32 := 0#32
  let v60 : BitVec 32 := Scalar.maxsi v59 c0_i32_24
  let v61 : Index := Scalar.indexCast arg0
  let v62 : BitVec 32 := pf.at 0 (Rect.unit (s := S12) ![v61.toNat] S1.size (k0_off1_inb i)) numel1_S1
  let c0_i32_25 : BitVec 32 := 0#32
  let v63 : BitVec 1 := Scalar.cmpi .sgt v62 c0_i32_25
  let c2_i32_26 : BitVec 32 := 2#32
  let v64 : BitVec 32 := Scalar.select v63 arg1 c2_i32_26
  let c0_i32_27 : BitVec 32 := 0#32
  let c0_i32_28 : BitVec 32 := 0#32
  ![v60.toNat, v64.toNat, c0_i32_27.toNat]

def cc0_transform_2 (inb_S12_S1_0 : ∀ a, (![0] : Fin 1 → Nat) a + S1.size a ≤ S12.size a) (numel1_S1 : S1.numel = 1) (inb_S12_S1_1 : ∀ a, (![1] : Fin 1 → Nat) a + S1.size a ≤ S12.size a) (inb_S12_S1_2 : ∀ a, (![2] : Fin 1 → Nat) a + S1.size a ≤ S12.size a) (inb_S12_S1_3 : ∀ a, (![3] : Fin 1 → Nat) a + S1.size a ≤ S12.size a) (inb_S12_S1_4 : ∀ a, (![4] : Fin 1 → Nat) a + S1.size a ≤ S12.size a) (inb_S12_S1_5 : ∀ a, (![5] : Fin 1 → Nat) a + S1.size a ≤ S12.size a) (inb_S12_S1_6 : ∀ a, (![6] : Fin 1 → Nat) a + S1.size a ≤ S12.size a) (inb_S12_S1_7 : ∀ a, (![7] : Fin 1 → Nat) a + S1.size a ≤ S12.size a) (inb_S12_S1_8 : ∀ a, (![8] : Fin 1 → Nat) a + S1.size a ≤ S12.size a) (inb_S12_S1_9 : ∀ a, (![9] : Fin 1 → Nat) a + S1.size a ≤ S12.size a) (inb_S12_S1_10 : ∀ a, (![10] : Fin 1 → Nat) a + S1.size a ≤ S12.size a) (inb_S12_S1_11 : ∀ a, (![11] : Fin 1 → Nat) a + S1.size a ≤ S12.size a) (k0_off1_inb : ∀ i : grid0.Coords, ∀ a, (k0_off1 i) a + S1.size a ≤ S12.size a) (pf : pre0.Contents (Elt F)) (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c0 : Index := 0#32
  let v1 : BitVec 32 := pf.at 0 (Rect.unit (s := S12) ![0] S1.size inb_S12_S1_0) numel1_S1
  let c0_i32_0 : BitVec 32 := 0#32
  let v2 : BitVec 1 := Scalar.cmpi .sgt v1 c0_i32_0
  let v3 : BitVec 1 := Scalar.andi v0 v2
  let c0_i32_1 : BitVec 32 := 0#32
  let c_m1_i32 : BitVec 32 := 4294967295#32
  let v4 : BitVec 32 := Scalar.select v3 c0_i32_1 c_m1_i32
  let c1_i32 : BitVec 32 := 1#32
  let v5 : BitVec 1 := Scalar.cmpi .sge arg0 c1_i32
  let c1 : Index := 1#32
  let v6 : BitVec 32 := pf.at 0 (Rect.unit (s := S12) ![1] S1.size inb_S12_S1_1) numel1_S1
  let c0_i32_2 : BitVec 32 := 0#32
  let v7 : BitVec 1 := Scalar.cmpi .sgt v6 c0_i32_2
  let v8 : BitVec 1 := Scalar.andi v5 v7
  let c1_i32_3 : BitVec 32 := 1#32
  let v9 : BitVec 32 := Scalar.select v8 c1_i32_3 v4
  let c2_i32 : BitVec 32 := 2#32
  let v10 : BitVec 1 := Scalar.cmpi .sge arg0 c2_i32
  let c2 : Index := 2#32
  let v11 : BitVec 32 := pf.at 0 (Rect.unit (s := S12) ![2] S1.size inb_S12_S1_2) numel1_S1
  let c0_i32_4 : BitVec 32 := 0#32
  let v12 : BitVec 1 := Scalar.cmpi .sgt v11 c0_i32_4
  let v13 : BitVec 1 := Scalar.andi v10 v12
  let c2_i32_5 : BitVec 32 := 2#32
  let v14 : BitVec 32 := Scalar.select v13 c2_i32_5 v9
  let c3_i32 : BitVec 32 := 3#32
  let v15 : BitVec 1 := Scalar.cmpi .sge arg0 c3_i32
  let c3 : Index := 3#32
  let v16 : BitVec 32 := pf.at 0 (Rect.unit (s := S12) ![3] S1.size inb_S12_S1_3) numel1_S1
  let c0_i32_6 : BitVec 32 := 0#32
  let v17 : BitVec 1 := Scalar.cmpi .sgt v16 c0_i32_6
  let v18 : BitVec 1 := Scalar.andi v15 v17
  let c3_i32_7 : BitVec 32 := 3#32
  let v19 : BitVec 32 := Scalar.select v18 c3_i32_7 v14
  let c4_i32 : BitVec 32 := 4#32
  let v20 : BitVec 1 := Scalar.cmpi .sge arg0 c4_i32
  let c4 : Index := 4#32
  let v21 : BitVec 32 := pf.at 0 (Rect.unit (s := S12) ![4] S1.size inb_S12_S1_4) numel1_S1
  let c0_i32_8 : BitVec 32 := 0#32
  let v22 : BitVec 1 := Scalar.cmpi .sgt v21 c0_i32_8
  let v23 : BitVec 1 := Scalar.andi v20 v22
  let c4_i32_9 : BitVec 32 := 4#32
  let v24 : BitVec 32 := Scalar.select v23 c4_i32_9 v19
  let c5_i32 : BitVec 32 := 5#32
  let v25 : BitVec 1 := Scalar.cmpi .sge arg0 c5_i32
  let c5 : Index := 5#32
  let v26 : BitVec 32 := pf.at 0 (Rect.unit (s := S12) ![5] S1.size inb_S12_S1_5) numel1_S1
  let c0_i32_10 : BitVec 32 := 0#32
  let v27 : BitVec 1 := Scalar.cmpi .sgt v26 c0_i32_10
  let v28 : BitVec 1 := Scalar.andi v25 v27
  let c5_i32_11 : BitVec 32 := 5#32
  let v29 : BitVec 32 := Scalar.select v28 c5_i32_11 v24
  let c6_i32 : BitVec 32 := 6#32
  let v30 : BitVec 1 := Scalar.cmpi .sge arg0 c6_i32
  let c6 : Index := 6#32
  let v31 : BitVec 32 := pf.at 0 (Rect.unit (s := S12) ![6] S1.size inb_S12_S1_6) numel1_S1
  let c0_i32_12 : BitVec 32 := 0#32
  let v32 : BitVec 1 := Scalar.cmpi .sgt v31 c0_i32_12
  let v33 : BitVec 1 := Scalar.andi v30 v32
  let c6_i32_13 : BitVec 32 := 6#32
  let v34 : BitVec 32 := Scalar.select v33 c6_i32_13 v29
  let c7_i32 : BitVec 32 := 7#32
  let v35 : BitVec 1 := Scalar.cmpi .sge arg0 c7_i32
  let c7 : Index := 7#32
  let v36 : BitVec 32 := pf.at 0 (Rect.unit (s := S12) ![7] S1.size inb_S12_S1_7) numel1_S1
  let c0_i32_14 : BitVec 32 := 0#32
  let v37 : BitVec 1 := Scalar.cmpi .sgt v36 c0_i32_14
  let v38 : BitVec 1 := Scalar.andi v35 v37
  let c7_i32_15 : BitVec 32 := 7#32
  let v39 : BitVec 32 := Scalar.select v38 c7_i32_15 v34
  let c8_i32 : BitVec 32 := 8#32
  let v40 : BitVec 1 := Scalar.cmpi .sge arg0 c8_i32
  let c8 : Index := 8#32
  let v41 : BitVec 32 := pf.at 0 (Rect.unit (s := S12) ![8] S1.size inb_S12_S1_8) numel1_S1
  let c0_i32_16 : BitVec 32 := 0#32
  let v42 : BitVec 1 := Scalar.cmpi .sgt v41 c0_i32_16
  let v43 : BitVec 1 := Scalar.andi v40 v42
  let c8_i32_17 : BitVec 32 := 8#32
  let v44 : BitVec 32 := Scalar.select v43 c8_i32_17 v39
  let c9_i32 : BitVec 32 := 9#32
  let v45 : BitVec 1 := Scalar.cmpi .sge arg0 c9_i32
  let c9 : Index := 9#32
  let v46 : BitVec 32 := pf.at 0 (Rect.unit (s := S12) ![9] S1.size inb_S12_S1_9) numel1_S1
  let c0_i32_18 : BitVec 32 := 0#32
  let v47 : BitVec 1 := Scalar.cmpi .sgt v46 c0_i32_18
  let v48 : BitVec 1 := Scalar.andi v45 v47
  let c9_i32_19 : BitVec 32 := 9#32
  let v49 : BitVec 32 := Scalar.select v48 c9_i32_19 v44
  let c10_i32 : BitVec 32 := 10#32
  let v50 : BitVec 1 := Scalar.cmpi .sge arg0 c10_i32
  let c10 : Index := 10#32
  let v51 : BitVec 32 := pf.at 0 (Rect.unit (s := S12) ![10] S1.size inb_S12_S1_10) numel1_S1
  let c0_i32_20 : BitVec 32 := 0#32
  let v52 : BitVec 1 := Scalar.cmpi .sgt v51 c0_i32_20
  let v53 : BitVec 1 := Scalar.andi v50 v52
  let c10_i32_21 : BitVec 32 := 10#32
  let v54 : BitVec 32 := Scalar.select v53 c10_i32_21 v49
  let c11_i32 : BitVec 32 := 11#32
  let v55 : BitVec 1 := Scalar.cmpi .sge arg0 c11_i32
  let c11 : Index := 11#32
  let v56 : BitVec 32 := pf.at 0 (Rect.unit (s := S12) ![11] S1.size inb_S12_S1_11) numel1_S1
  let c0_i32_22 : BitVec 32 := 0#32
  let v57 : BitVec 1 := Scalar.cmpi .sgt v56 c0_i32_22
  let v58 : BitVec 1 := Scalar.andi v55 v57
  let c11_i32_23 : BitVec 32 := 11#32
  let v59 : BitVec 32 := Scalar.select v58 c11_i32_23 v54
  let c0_i32_24 : BitVec 32 := 0#32
  let v60 : BitVec 32 := Scalar.maxsi v59 c0_i32_24
  let v61 : Index := Scalar.indexCast arg0
  let v62 : BitVec 32 := pf.at 0 (Rect.unit (s := S12) ![v61.toNat] S1.size (k0_off1_inb i)) numel1_S1
  let c0_i32_25 : BitVec 32 := 0#32
  let v63 : BitVec 1 := Scalar.cmpi .sgt v62 c0_i32_25
  let c2_i32_26 : BitVec 32 := 2#32
  let v64 : BitVec 32 := Scalar.select v63 arg1 c2_i32_26
  let c0_i32_27 : BitVec 32 := 0#32
  let c0_i32_28 : BitVec 32 := 0#32
  ![v60.toNat, c0_i32_27.toNat, v64.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x160x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S12x64x5120 : Shape := ⟨3, ![12, 64, 5120]⟩
abbrev S12 : Shape := ⟨1, ![12]⟩
abbrev S12x3072x5120 : Shape := ⟨3, ![12, 3072, 5120]⟩
abbrev S12x3072x160 : Shape := ⟨3, ![12, 3072, 160]⟩
abbrev S12x64x3072 : Shape := ⟨3, ![12, 64, 3072]⟩
abbrev S12x64x160x32 : Shape := ⟨4, ![12, 64, 160, 32]⟩
abbrev S12x64x160 : Shape := ⟨3, ![12, 64, 160]⟩
abbrev S12x64x160x1 : Shape := ⟨4, ![12, 64, 160, 1]⟩
abbrev S12x64x160x254 : Shape := ⟨4, ![12, 64, 160, 254]⟩
abbrev S12x3072x160x32 : Shape := ⟨4, ![12, 3072, 160, 32]⟩
abbrev S12x3072x160x1 : Shape := ⟨4, ![12, 3072, 160, 1]⟩
abbrev S12x64 : Shape := ⟨2, ![12, 64]⟩
abbrev S12x1 : Shape := ⟨2, ![12, 1]⟩
abbrev S12x64x1 : Shape := ⟨3, ![12, 64, 1]⟩

abbrev nBuf : Space → Nat
  | .hbm => 5
  | .vmem => 5
  | .smem => 0
  | _ => 0

abbrev bufTy : (tb : Table) → Fin (tcTables nBuf tb) → BufTy
  | .hbm, ⟨0, _⟩ => ⟨S12x64x5120, .bf16⟩
  | .hbm, ⟨1, _⟩ => ⟨S12, .i32⟩
  | .hbm, ⟨2, _⟩ => ⟨S12x3072x5120, .fp8e4m3⟩
  | .hbm, ⟨3, _⟩ => ⟨S12x3072x160, .i8⟩
  | .hbm, ⟨4, _⟩ => ⟨S12x64x3072, .bf16⟩
  | .local _ .vmem, ⟨0, _⟩ => ⟨S12x64x5120, .bf16⟩
  | .local _ .vmem, ⟨1, _⟩ => ⟨S12, .i32⟩
  | .local _ .vmem, ⟨2, _⟩ => ⟨S12x3072x5120, .fp8e4m3⟩
  | .local _ .vmem, ⟨3, _⟩ => ⟨S12x3072x160, .i8⟩
  | .local _ .vmem, ⟨4, _⟩ => ⟨S12x64x3072, .bf16⟩
  | _, _ => ⟨S12x64x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S12x64x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x3072x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x3072x160 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x64x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelBody.lean ====
/- The kernel body of `Kernel`, run once over symbolic operands: the invariant of its column-tile loop, and the
   body's triple with the contents it leaves named. -/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the pipeline's run. -/
local notation "𝕄" => MT nD τ sig Unit (Elt F) ℕ (UR sig nD τ) ℕ

/-- No loop variants are counted. -/
abbrev 𝒱₀ : Variants := Variants.none

section Body

variable (c : Dev nD) (i : grid0.Coords) (arg2 : Memref sig .tc .smem S12 .i32) (harg2 : arg2.IsWhole) (arg3 : Memref sig .tc .vmem S1x64x5120 .bf16) (harg3 : arg3.IsWhole) (arg4 : Memref sig .tc .vmem S1x1024x5120 .fp8e4m3) (harg4 : arg4.IsWhole) (arg5 : Memref sig .tc .vmem S1x160x1024 .i8) (harg5 : arg5.IsWhole) (arg6 : Memref sig .tc .vmem S1x64x1024 .bf16) (harg6 : arg6.IsWhole) (arg7 : Memref sig .tc .vmem S64x5120 .bf16) (harg7 : arg7.IsWhole) (arg8 : Memref sig .tc .vmem S160x1024 .i32) (harg8 : arg8.IsWhole)

/-- The column tile that trip `k` of the column-tile loop stores: the accumulated products of the five depth chunks,
    masked to the rows below the size word `v1`. -/
def tile (v1 : Elt F .i32) (X4 : BufTy.Contents (Elt F) arg4.view.ty) (X7 : BufTy.Contents (Elt F) arg7.view.ty)
    (X8 : BufTy.Contents (Elt F) arg8.view.ty) (k : Fin k0_t2_loop.trips) : FVec F S1x64x256 .bf16 :=
  k0_pay8 v1 (st_k0_t3 (F := F) 𝒱₀ c none i arg2 harg2 arg3 harg3 arg4 harg4 arg5 harg5 arg6 harg6 arg7 harg7 arg8 harg8 k (Scf.iv 0#32 1#32 k) X4 X7 X8 (k0_pay6 (F := F)) k0_t3_loop.trips)

/-- The tiles stored by the trips before `k`, last first. -/
def tiles (v1 : Elt F .i32) (X4 : BufTy.Contents (Elt F) arg4.view.ty) (X7 : BufTy.Contents (Elt F) arg7.view.ty)
    (X8 : BufTy.Contents (Elt F) arg8.view.ty) : ℕ → List (View.Piece (Elt F) S1x64x1024 .bf16)
  | 0 => []
  | k + 1 =>
    if h : k < k0_t2_loop.trips then
      ⟨Rect.unit (s := S1x64x1024) (k0_off7 ⟨k, h⟩) S1x64x256.size (k0_off7_inb ⟨k, h⟩), tile c i arg2 harg2 arg3 harg3 arg4 harg4 arg5 harg5 arg6 harg6 arg7 harg7 arg8 harg8 v1 X4 X7 X8 ⟨k, h⟩⟩
        :: tiles v1 X4 X7 X8 k
    else tiles v1 X4 X7 X8 k

/-- The tiles before trip `k + 1` are trip `k`'s in front of those before it. -/
theorem tiles_succ (v1 : Elt F .i32) (X4 : BufTy.Contents (Elt F) arg4.view.ty) (X7 : BufTy.Contents (Elt F) arg7.view.ty)
    (X8 : BufTy.Contents (Elt F) arg8.view.ty) (k : Fin k0_t2_loop.trips) :
    tiles c i arg2 harg2 arg3 harg3 arg4 harg4 arg5 harg5 arg6 harg6 arg7 harg7 arg8 harg8 v1 X4 X7 X8 (k.val + 1)
      = ⟨Rect.unit (s := S1x64x1024) (k0_off7 k) S1x64x256.size (k0_off7_inb k), tile c i arg2 harg2 arg3 harg3 arg4 harg4 arg5 harg5 arg6 harg6 arg7 harg7 arg8 harg8 v1 X4 X7 X8 k⟩
        :: tiles c i arg2 harg2 arg3 harg3 arg4 harg4 arg5 harg5 arg6 harg6 arg7 harg7 arg8 harg8 v1 X4 X7 X8 k.val := by
  rw [tiles, dif_pos k.isLt]

set_option warn.classDefReducibility false in
/-- The column-tile loop's invariant: what the region reads stays at its contents, and the output buffer holds the tiles
    of the trips gone through written over what it held at the loop's entry. -/
@[sl_loop] def loopInv_k0_t2 (v1 : Elt F .i32) (X4 : BufTy.Contents (Elt F) arg4.view.ty) (X7 : BufTy.Contents (Elt F) arg7.view.ty)
    (X8 : BufTy.Contents (Elt F) arg8.view.ty) (G6 : BufTy.Contents (Elt F) arg6.view.ty) :
    LoopInvTy_k0_t2 (F := F) Unit ℕ (UR sig nD τ) ℕ 𝒱₀ c none Set.univ i arg2 harg2 arg3 harg3 arg4 harg4 arg5 harg5 arg6 harg6 arg7 harg7 arg8 harg8 v1 where
  inv := fun k _ => iprop((arg4.view.loc (c : Thread nD τ) ↦[arg4.view.set]{fullShare} X4)
    ∗ (arg7.view.loc (c : Thread nD τ) ↦[arg7.view.set]{fullShare} X7)
    ∗ (arg8.view.loc (c : Thread nD τ) ↦[arg8.view.set]{fullShare} X8)
    ∗ (∃ f, (arg6.view.loc (c : Thread nD τ) ↦[arg6.view.set]{fullShare} f)
        ∗ ⌜f = arg6.view.writes (Elt F) G6 (tiles c i arg2 harg2 arg3 harg3 arg4 harg4 arg5 harg5 arg6 harg6 arg7 harg7 arg8 harg8 v1 X4 X7 X8 k)⌝))
  step := fun k acc => by
    have hk : k.val < 4 := k.isLt
    rw [tiles_succ]
    unfold k0_t2_body
    iintro ⟨H4, H7, H8, ⟨%f, H6, %hf⟩⟩
    sl_exec
    sl_step
    subst hf
    isplitl [H4]; · iexact H4
    isplitl [H7]; · iexact H7
    isplitl [H8]; · iexact H8
    iexists _
    isplitl [H6]; · iexact H6
    ipureintro
    rfl

/-- What one trip of the quantising loop holds: the activations it reads, and the scratch it writes. -/
abbrev Trip1 (X3 : BufTy.Contents (Elt F) arg3.view.ty) (f7 : BufTy.Contents (Elt F) arg7.view.ty) : sProp 𝕄 :=
  iprop((arg3.view.loc (c : Thread nD τ) ↦[arg3.view.set]{fullShare} X3)
    ∗ (arg7.view.loc (c : Thread nD τ) ↦[arg7.view.set]{fullShare} f7))

/-- One trip of the quantising loop, run at a symbolic trip: the pieces it stores into the scratch are what the run finds. -/
def trip1 (k0_h3 : k0_cond3 i = 1#1) (X3 : BufTy.Contents (Elt F) arg3.view.ty) (k : Fin k0_t1_loop.trips) :
    { L : List (View.Piece (Elt F) S64x5120 .bf16) // ∀ f7 : BufTy.Contents (Elt F) arg7.view.ty,
      Trip1 (F := F) c arg3 arg7 X3 f7
      ⊢ wp frame (wpE (defs₀ (F := F)) 𝒱₀ (c : Thread nD τ) none) Set.univ
          (k0_t1_body (F := F) i arg2 harg2 arg3 harg3 arg4 harg4 arg5 harg5 arg6 harg6 arg7 harg7 arg8 harg8 k0_h3 k PUnit.unit)
          (fun _ => Trip1 (F := F) c arg3 arg7 X3 (arg7.view.writes (Elt F) f7 L)) } := by
  have hk : k.val < 20 := Nat.lt_of_lt_of_le k.isLt k0_t1_abs.2.1
  refine ⟨?_, fun f7 => ?run⟩
  case run =>
    unfold k0_t1_body
    iintro ⟨H3, H7⟩
    sl_exec
    sl_step
    sl_close

/-- The pieces stored by the quantising loop's trips before `k`, last first. -/
def pieces1 (k0_h3 : k0_cond3 i = 1#1) (X3 : BufTy.Contents (Elt F) arg3.view.ty) : ℕ → List (View.Piece (Elt F) S64x5120 .bf16)
  | 0 => []
  | k + 1 =>
    if h : k < k0_t1_loop.trips then (trip1 c i arg2 harg2 arg3 harg3 arg4 harg4 arg5 harg5 arg6 harg6 arg7 harg7 arg8 harg8 k0_h3 X3 ⟨k, h⟩).1 ++ pieces1 k0_h3 X3 k
    else pieces1 k0_h3 X3 k

/-- The pieces before trip `k + 1` are trip `k`'s in front of those before it. -/
theorem pieces1_succ (k0_h3 : k0_cond3 i = 1#1) (X3 : BufTy.Contents (Elt F) arg3.view.ty) (k : Fin k0_t1_loop.trips) :
    pieces1 c i arg2 harg2 arg3 harg3 arg4 harg4 arg5 harg5 arg6 harg6 arg7 harg7 arg8 harg8 k0_h3 X3 (k.val + 1)
      = (trip1 c i arg2 harg2 arg3 harg3 arg4 harg4 arg5 harg5 arg6 harg6 arg7 harg7 arg8 harg8 k0_h3 X3 k).1 ++ pieces1 c i arg2 harg2 arg3 harg3 arg4 harg4 arg5 harg5 arg6 harg6 arg7 harg7 arg8 harg8 k0_h3 X3 k.val := by
  rw [pieces1, dif_pos k.isLt]

set_option warn.classDefReducibility false in
/-- The quantising loop's invariant: the activations stay, and the scratch holds the pieces of the trips gone through
    written over what it held at the loop's entry. -/
@[sl_loop] def loopInv_k0_t1 (k0_h3 : k0_cond3 i = 1#1) (X3 : BufTy.Contents (Elt F) arg3.view.ty)
    (G7 : BufTy.Contents (Elt F) arg7.view.ty) :
    LoopInvTy_k0_t1 (F := F) Unit ℕ (UR sig nD τ) ℕ 𝒱₀ c none Set.univ i arg2 harg2 arg3 harg3 arg4 harg4 arg5 harg5 arg6 harg6 arg7 harg7 arg8 harg8 k0_h3 where
  inv := fun k _ => iprop((arg3.view.loc (c : Thread nD τ) ↦[arg3.view.set]{fullShare} X3)
    ∗ (∃ f, (arg7.view.loc (c : Thread nD τ) ↦[arg7.view.set]{fullShare} f)
        ∗ ⌜f = arg7.view.writes (Elt F) G7 (pieces1 c i arg2 harg2 arg3 harg3 arg4 harg4 arg5 harg5 arg6 harg6 arg7 harg7 arg8 harg8 k0_h3 X3 k)⌝))
  step := fun k acc => by
    iintro ⟨H3, ⟨%f, H7, %hf⟩⟩
    iapply (wp_wand_r Idealize.ShloMosaic.frame (wpE (defs₀ (F := F)) 𝒱₀ (c : Thread nD τ) none) Set.univ)
    isplitl [H3 H7]
    · iapply ((trip1 (F := F) c i arg2 harg2 arg3 harg3 arg4 harg4 arg5 harg5 arg6 harg6 arg7 harg7 arg8 harg8 k0_h3 X3 k).2 f)
      isplitl [H3]; · iexact H3
      iexact H7
    · iintro %_ ⟨H3, H7⟩
      isplitl [H3]; · iexact H3
      rw [pieces1_succ]
      iexists _; isplitl [H7]; · iexact H7
      ipureintro; rw [hf, ← View.writes_append]

/-- The size word that the body reads from the table's contents `f2`. -/
def word (f2 : BufTy.Contents (Elt F) arg2.view.ty) : Elt F .i32 :=
  View.readAt (Elt F) arg2.view (Rect.unit (s := S12) (k0_off1 i) S1.size (k0_off1_inb i)).toLoadRect f2 (Shape.Idx.first (show 0 < S1.numel by decide))

/-- What the body leaves: an idle or a zero group leaves the scratch, a zero group stores zeros; a group with rows quantises
    its activations into the scratch at its first column block, decodes its scales, and stores the four column tiles
    computed from the scratch buffers. -/
def Left (f2 : BufTy.Contents (Elt F) arg2.view.ty)
    (f3 : BufTy.Contents (Elt F) arg3.view.ty) (f4 : BufTy.Contents (Elt F) arg4.view.ty) (f5 : BufTy.Contents (Elt F) arg5.view.ty)
    (f6 f6' : BufTy.Contents (Elt F) arg6.view.ty) (f7 f7' : BufTy.Contents (Elt F) arg7.view.ty) (f8' : BufTy.Contents (Elt F) arg8.view.ty) : Prop :=
  (¬ k0_cond2 (word i arg2 f2) = 1#1 → f7' = f7
    ∧ (k0_cond1 (word i arg2 f2) = 1#1 → f6' = arg6.view.writes (Elt F) f6
        [⟨Rect.unit (s := S1x64x1024) ![0, 0, 0] S1x64x1024.size inb_S1x64x1024_S1x64x1024_0_0_0, k0_pay1⟩]))
  ∧ (k0_cond2 (word i arg2 f2) = 1#1 →
      (∃ G8, f8' = arg8.view.writes (Elt F) G8
        [⟨Rect.unit (s := S160x1024) ![0, 0] S160x1024.size inb_S160x1024_S160x1024_0_0,
          k0_pay5 (View.readAt (Elt F) arg5.view (Rect.unit (s := S1x160x1024) ![0, 0, 0] S1x160x1024.size inb_S1x160x1024_S1x160x1024_0_0_0).toLoadRect f5)⟩])
      ∧ (∃ G6, f6' = arg6.view.writes (Elt F) G6
          (tiles c i arg2 harg2 arg3 harg3 arg4 harg4 arg5 harg5 arg6 harg6 arg7 harg7 arg8 harg8 (word i arg2 f2) f4 f7' f8' k0_t2_loop.trips))
      ∧ (∀ h3 : k0_cond3 i = 1#1, ∃ G7, f7' = arg7.view.writes (Elt F) G7 (pieces1 c i arg2 harg2 arg3 harg3 arg4 harg4 arg5 harg5 arg6 harg6 arg7 harg7 arg8 harg8 h3 f3 k0_t1_loop.trips))
      ∧ (¬ k0_cond3 i = 1#1 → f7' = f7))

set_option maxHeartbeats 1000000 in
/-- The kernel body on its operands at any contents runs to the continuation holding what it only reads as it was, and the
    output buffer and the two scratch buffers as `Left` says. -/
theorem sound_kernel (q : PosShare TreeShare) (f2 : BufTy.Contents (Elt F) arg2.view.ty)
    (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty)
    (K : PUnit → sProp 𝕄) :
    iprop((arg2.view.loc (c : Thread nD τ) ↦[arg2.view.set]{q} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (∀ f6' f7' f8', iprop((arg2.view.loc (c : Thread nD τ) ↦[arg2.view.set]{q} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6')
        ∗ (arg7.view.loc (c : Thread nD τ) ↦[arg7.view.set]{fullShare} f7')
        ∗ (arg8.view.loc (c : Thread nD τ) ↦[arg8.view.set]{fullShare} f8')
        ∗ ⌜Left c i arg2 harg2 arg3 harg3 arg4 harg4 arg5 harg5 arg6 harg6 arg7 harg7 arg8 harg8 f2 f3 f4 f5 f6 f6' f7 f7' f8'⌝) -∗ K ⟨⟩))
      ⊢ wp frame (wpE (defs₀ (F := F)) Variants.none c none) Set.univ (cc0_grouped_mx_matmul i arg2 harg2 arg3 harg3 arg4 harg4 arg5 harg5 arg6 harg6 arg7 harg7 arg8 harg8) K := by
  simp only [cc0_grouped_mx_matmul_eq_skeleton]; unfold cc0_grouped_mx_matmul_skel
  iintro ⟨H2, H3, H4, H5, H6, H7, H8, Hk⟩
  sl_exec
  have hw : sound_kernel.sl.r i arg2 f2 = word i arg2 f2 := rfl
  by_cases h2 : k0_cond2 (sound_kernel.sl.r i arg2 f2) = 1#1
  · rw [dif_pos h2]
    by_cases h3 : k0_cond3 i = 1#1
    · rw [dif_pos h3]
      sl_exec
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      ipureintro
      refine ⟨fun h => absurd h2 h, fun _ => ⟨⟨_, rfl⟩, ⟨_, rfl⟩, fun _ => ⟨_, rfl⟩, fun h => absurd h3 h⟩⟩
    · rw [dif_neg h3]
      sl_exec
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      ipureintro
      refine ⟨fun h => absurd h2 h, fun _ => ⟨⟨_, rfl⟩, ⟨_, rfl⟩, fun h => absurd h h3, fun _ => rfl⟩⟩
  · rw [dif_neg h2]
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    ipureintro
    refine ⟨fun _ => ⟨rfl, fun h1 => dif_pos h1⟩, fun h => absurd h h2⟩

end Body

end Cert.Proof.Kernel

end
-- ==== Proof.KernelTable.lean ====
/- The blocks the weight and scale windows read, as functions of the prefetched group sizes: inside their arrays for
   every table, and at a group with rows the group's own block. -/
module

public import proofs.«01_k».proof.Proof.Gen.Kernel

@[expose] public section

noncomputable section

namespace Cert.Proof.Kernel

open Cert.Kernel Cert.Kernel.Gen
open Idealize.ShloMosaic Idealize.ShloMosaic.TcCoe

variable {F : FTy → Type} [FloatOps F]

/-- The last group at or before `n`, among the first `k`, whose size word is positive; minus one when there is none. -/
def grp (n : BitVec 32) (w : ℕ → BitVec 32) : ℕ → BitVec 32
  | 0 => 4294967295#32
  | k + 1 => Scalar.select (Scalar.andi (Scalar.cmpi .sge n (BitVec.ofNat 32 k)) (Scalar.cmpi .sgt (w k) 0#32))
      (BitVec.ofNat 32 k) (grp n w k)

/-- The last positive group among the first `k` is none, or one of them. -/
theorem grp_cases (n : BitVec 32) (w : ℕ → BitVec 32) :
    ∀ k, grp n w k = 4294967295#32 ∨ ∃ j < k, grp n w k = BitVec.ofNat 32 j
  | 0 => .inl rfl
  | k + 1 => by
    unfold grp Scalar.select
    split
    · exact .inr ⟨k, Nat.lt_succ_self _, rfl⟩
    · rcases grp_cases n w k with h | ⟨j, hj, h⟩
      · exact .inl h
      · exact .inr ⟨j, Nat.lt_succ_of_lt hj, h⟩

/-- Comparing two group numbers as words is comparing them. -/
theorem sge_ofNat {a b : ℕ} (ha : a < 12) (hb : b < 12) :
    Scalar.cmpi .sge (BitVec.ofNat 32 a) (BitVec.ofNat 32 b) = BitVec.ofBool (decide (b ≤ a)) := by
  exact (by decide : ∀ a b : Fin 12, Scalar.cmpi .sge (BitVec.ofNat 32 a.val) (BitVec.ofNat 32 b.val)
    = BitVec.ofBool (decide (b.val ≤ a.val))) ⟨a, ha⟩ ⟨b, hb⟩

/-- At a group whose size is positive the last positive group is the group itself. -/
theorem grp_self (w : ℕ → BitVec 32) {e : ℕ} (he : e < 12) (hw : Scalar.cmpi .sgt (w e) 0#32 = 1#1) :
    ∀ k, e < k → k ≤ 12 → grp (BitVec.ofNat 32 e) w k = BitVec.ofNat 32 e
  | 0, h, _ => absurd h (Nat.not_lt_zero _)
  | k + 1, h, hk => by
    unfold grp
    rw [sge_ofNat he (by omega)]
    rcases Nat.lt_or_ge e k with hek | hek
    · rw [show decide (k ≤ e) = false from decide_eq_false (by omega), grp_self w he hw k hek (by omega)]
      unfold Scalar.select Scalar.andi IntOp.andi
      rw [if_neg]
      intro h0; revert h0
      generalize Scalar.cmpi .sgt (w k) 0#32 = x
      revert x; decide
    · obtain rfl : e = k := by omega
      rw [hw]; unfold Scalar.select; rw [if_pos]; simp [Scalar.andi, IntOp.andi]

/-- The group's block number, held at zero or above. -/
def grpIx (n : BitVec 32) (w : ℕ → BitVec 32) : BitVec 32 := Scalar.maxsi (grp n w 12) 0#32

/-- The group that the index maps name is in the table. -/
theorem grpIx_le (n : BitVec 32) (w : ℕ → BitVec 32) : (grpIx n w).toNat ≤ 11 := by
  unfold grpIx
  rcases grp_cases n w 12 with h | ⟨j, hj, h⟩
  · rw [h]; decide
  · rw [h]; exact (by decide : ∀ a : Fin 12, (Scalar.maxsi (BitVec.ofNat 32 a.val) 0#32).toNat ≤ 11) ⟨j, hj⟩

/-- At a group with rows the index maps name that group. -/
theorem grpIx_self (w : ℕ → BitVec 32) {e : ℕ} (he : e < 12) (hw : Scalar.cmpi .sgt (w e) 0#32 = 1#1) :
    (grpIx (BitVec.ofNat 32 e) w).toNat = e := by
  unfold grpIx; rw [grp_self w he hw 12 he (Nat.le_refl _)]
  exact (by decide : ∀ a : Fin 12, (Scalar.maxsi (BitVec.ofNat 32 a.val) 0#32).toNat = a.val) ⟨e, he⟩

/-- The prefetched table's word `k`, inside the table. -/
def tblAt (pf : pre0.Contents (Elt F)) (k : ℕ) (h : k < 12) : BitVec 32 :=
  pf.at 0 (Rect.unit (s := S12) ![k] S1.size (fun | 0 => h)) numel1_S1

/-- The prefetched table's word `k`. -/
def tblWord (pf : pre0.Contents (Elt F)) (k : ℕ) : BitVec 32 :=
  if h : k < 12 then tblAt pf k h else 0#32

/-- The column block: the grid's, or the last one where the group has no row. -/
def colIx (pf : pre0.Contents (Elt F)) (i : grid0.Coords) : BitVec 32 :=
  Scalar.select (Scalar.cmpi .sgt (tblWord pf (i 0).val) 0#32) (BitVec.ofNat 32 (i 1).val) 2#32

/-- There are twelve groups. -/
theorem i0_lt (i : grid0.Coords) : (i 0).val < 12 := (i 0).isLt
/-- There are three column blocks. -/
theorem i1_lt (i : grid0.Coords) : (i 1).val < 3 := (i 1).isLt

/-- The column block that the index maps name is one of the three. -/
theorem colIx_le (pf : pre0.Contents (Elt F)) (i : grid0.Coords) : (colIx pf i).toNat ≤ 2 := by
  unfold colIx Scalar.select
  split
  · exact (by decide : ∀ a : Fin 3, (BitVec.ofNat 32 a.val).toNat ≤ 2) (i 1)
  · decide

/-- The offset of a group's word is the group's number. -/
theorem off1_toNat (i : grid0.Coords) : (Scalar.indexCast (BitVec.ofNat 32 (i 0).val) : Index).toNat = (i 0).val := by
  exact (by decide : ∀ a : Fin 12, (Scalar.indexCast (BitVec.ofNat 32 a.val) : Index).toNat = a.val) (i 0)

/-- The size word the index maps load at the grid's own group. -/
abbrev ownWord (pf : pre0.Contents (Elt F)) (i : grid0.Coords) : BitVec 32 :=
  pf.at 0 (Rect.unit (s := S12) ![(Scalar.indexCast (BitVec.ofNat 32 (i 0).val) : Index).toNat] S1.size (k0_off1_inb i)) numel1_S1

/-- The word loaded at the grid's own group is the table's. -/
theorem ownWord_eq (pf : pre0.Contents (Elt F)) (i : grid0.Coords) : ownWord pf i = tblWord pf (i 0).val := by
  have key : ∀ (n : ℕ) (hn : n = (i 0).val) (h : ∀ a, (![n] : Fin 1 → ℕ) a + S1.size a ≤ S12.size a),
      pf.at 0 (Rect.unit (s := S12) ![n] S1.size h) numel1_S1 = tblWord pf (i 0).val := by
    intro n hn h; subst hn
    exact (show tblAt pf (i 0).val (i0_lt i) = _ by unfold tblWord; rw [dif_pos (i0_lt i)])
  exact key _ (off1_toNat i) _

/-- The column block, from the word at the grid's own group. -/
theorem colIx_own (pf : pre0.Contents (Elt F)) (i : grid0.Coords) :
    Scalar.select (Scalar.cmpi .sgt (ownWord pf i) 0#32) (BitVec.ofNat 32 (i 1).val) 2#32 = colIx pf i := by
  rw [ownWord_eq]; rfl

/-- The block the weight window reads at a grid point. -/
abbrev tf1 (pf : pre0.Contents (Elt F)) (i : grid0.Coords) : Fin 3 → ℕ :=
  cc0_transform_1 (F := F) inb_S12_S1_0 numel1_S1 inb_S12_S1_1 inb_S12_S1_2 inb_S12_S1_3 inb_S12_S1_4 inb_S12_S1_5 inb_S12_S1_6 inb_S12_S1_7 inb_S12_S1_8 inb_S12_S1_9 inb_S12_S1_10 inb_S12_S1_11 k0_off1_inb pf i
/-- The block the scale window reads at a grid point. -/
abbrev tf2 (pf : pre0.Contents (Elt F)) (i : grid0.Coords) : Fin 3 → ℕ :=
  cc0_transform_2 (F := F) inb_S12_S1_0 numel1_S1 inb_S12_S1_1 inb_S12_S1_2 inb_S12_S1_3 inb_S12_S1_4 inb_S12_S1_5 inb_S12_S1_6 inb_S12_S1_7 inb_S12_S1_8 inb_S12_S1_9 inb_S12_S1_10 inb_S12_S1_11 k0_off1_inb pf i

/-- The weight window's block, by group and column. -/
theorem tf1_eq (pf : pre0.Contents (Elt F)) (i : grid0.Coords) :
    tf1 pf i = ![(grpIx (BitVec.ofNat 32 (i 0).val) (tblWord pf)).toNat, (colIx pf i).toNat, 0] := by
  rw [← colIx_own]
  rfl

/-- The scale window's block, by group and column. -/
theorem tf2_eq (pf : pre0.Contents (Elt F)) (i : grid0.Coords) :
    tf2 pf i = ![(grpIx (BitVec.ofNat 32 (i 0).val) (tblWord pf)).toNat, 0, (colIx pf i).toNat] := by
  rw [← colIx_own]
  rfl

/-- Every table keeps the weight and scale blocks inside their arrays, and their transfers word-exact. -/
theorem ok0_all (pf : pre0.Contents (Elt F)) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩⟩
  · change (tf1 pf i a + 1) * S1x1024x5120.size a ≤ S12x3072x5120.size a
    rw [tf1_eq]
    have h1 := grpIx_le (BitVec.ofNat 32 (i 0).val) (tblWord pf)
    have h2 := colIx_le pf i
    match a with
    | 0 => show (_ + 1) * 1 ≤ 12; simp; omega
    | 1 => show (_ + 1) * 1024 ≤ 3072; simp; omega
    | 2 => show (_ + 1) * 5120 ≤ 5120; simp
  · change (tf2 pf i a + 1) * S1x160x1024.size a ≤ S12x160x3072.size a
    rw [tf2_eq]
    have h1 := grpIx_le (BitVec.ofNat 32 (i 0).val) (tblWord pf)
    have h2 := colIx_le pf i
    match a with
    | 0 => show (_ + 1) * 1 ≤ 12; simp; omega
    | 1 => show (_ + 1) * 160 ≤ 160; simp
    | 2 => show (_ + 1) * 1024 ≤ 3072; simp; omega

/-- At a group with rows the weight block is the grid point's own. -/
theorem tf1_self (pf : pre0.Contents (Elt F)) (i : grid0.Coords)
    (h : Scalar.cmpi .sgt (tblWord pf (i 0).val) 0#32 = 1#1) : tf1 pf i = ![(i 0).val, (i 1).val, 0] := by
  rw [tf1_eq, grpIx_self _ (i0_lt i) h]
  unfold colIx Scalar.select
  rw [if_pos (show _ = (1 : BitVec 1) from h)]
  have := i1_lt i
  rw [show (BitVec.ofNat 32 (i 1).val).toNat = (i 1).val by rw [BitVec.toNat_ofNat]; omega]

/-- At a group with rows the scale block is the grid point's own. -/
theorem tf2_self (pf : pre0.Contents (Elt F)) (i : grid0.Coords)
    (h : Scalar.cmpi .sgt (tblWord pf (i 0).val) 0#32 = 1#1) : tf2 pf i = ![(i 0).val, 0, (i 1).val] := by
  rw [tf2_eq, grpIx_self _ (i0_lt i) h]
  unfold colIx Scalar.select
  rw [if_pos (show _ = (1 : BitVec 1) from h)]
  have := i1_lt i
  rw [show (BitVec.ofNat 32 (i 1).val).toNat = (i 1).val by rw [BitVec.toNat_ofNat]; omega]

end Cert.Proof.Kernel

end
-- ==== Proof.KernelRun.lean ====
/- The run of `Kernel`: @main up to its region, the region's proof data, its body at every grid point, and the frame
   claim. -/
module

public import proofs.«01_k».proof.Proof.KernelBody
public import proofs.«01_k».proof.Proof.KernelTable
public import Idealize.ShloMosaic.Lib.Pipeline.FrameBody
public import Idealize.ShloMosaic.Lib.Claim

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resource algebra of the pipeline's run. -/
local notation "𝕄" => MT nD τ sig Unit (Elt F) ℕ (UR sig nD τ) ℕ

variable (m : (ℓ : Loc nD τ sig) → Buf (Elt F) ℓ) (ρ : Dev nD → PrngReg)

/-- The buffers' contents when the region is entered: as launched, the transposed scale bytes computed. -/
def V (c : Dev nD) (b : Ref sig .tc) : Buf (Elt F) ((c : Thread nD τ).loc b) :=
  StableHlo.after (hostOps0 (F := F)) (fun b => m (c, b)) b

/-- The region finds argument 0 as launched. -/
theorem V_main_arg0 (c : Dev nD) : V m c main_arg0 = m ((c : Thread nD τ).loc main_arg0) := rfl
/-- The region finds argument 1 as launched. -/
theorem V_main_arg1 (c : Dev nD) : V m c main_arg1 = m ((c : Thread nD τ).loc main_arg1) := rfl
/-- The region finds argument 2 as launched. -/
theorem V_main_arg2 (c : Dev nD) : V m c main_arg2 = m ((c : Thread nD τ).loc main_arg2) := rfl
/-- The region finds argument 3 as launched. -/
theorem V_main_arg3 (c : Dev nD) : V m c main_arg3 = m ((c : Thread nD τ).loc main_arg3) := rfl

set_option maxHeartbeats 800000 in
/-- @main up to the region: the scale bytes transposed on the host, then the region. -/
theorem hmain : Pipeline.HMainP (Ix := Unit) (Name := ℕ) (U := UR sig nD τ) (Lvl := ℕ) (pcfgs (F := F)) 0 defs₀ 𝒱₀ m (main (F := F)) (V m) :=
  Pipeline.hmainP_prefix pcfgs 0 defs₀ 𝒱₀ m main hostOps0 hostOps0_sub (by simp [hostOps0, StableHlo.unary]) main_chain

/-- The table's contents as the region finds them. -/
def tbl : pre0.Contents (Elt F) := fun k => V m (0 : Dev nD) (pre0.ref k)

/-- The table is admissible, whatever it holds. -/
def adm (_ : Fin 1) : (pcfg0 (F := F)).Adm := ⟨tbl m, ok0_all _⟩

/-- The pipeline at the table's contents. -/
abbrev cfgA : Pipeline.Cfg sig Λ₀ := cfg0 (adm m 0)

/-- Window `w`'s block at point `t`, read off its array as the region finds it. -/
def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

/-- An input window's staging buffer holds its block at every point. -/
theorem before0_0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Before the body the buffer of the weights holds the point's block, for any proof data over the same arrays. -/
theorem before0_1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Before the body the buffer of the scales holds the point's block, for any proof data over the same arrays. -/
theorem before0_2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data, at any invariant and any contents said of the output -/

/-- The contents a statement may give the output's staging buffer, point by point. -/
abbrev OutOf := (t : Fin (cfgA m).N) → Vec F S1x64x1024 .bf16

/-- Proof data: each input's buffer left at its block, the output's at `out`, the invariant `Φ`. -/
def datsOf (Φ : (c : Dev nD) → Fin ((cfgA m).N + 1) → sProp 𝕄) (out : (c : Dev nD) → OutOf m) (_ : Fin 1) (c : Dev nD) :
    Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out c t
  Φ := Φ c
  q _ := fullShare
  owed _ := 0

/-- The proof data's arrays are the ones the region finds. -/
theorem A_eq (P : (c : Dev nD) → Fin ((cfgA m).N + 1) → sProp 𝕄) (out : (c : Dev nD) → OutOf m) (c : Dev nD) (w : Fin (cfgA m).W) : (datsOf m P out 0 c).A w = V m c (Pipeline.arrRef spec0 w) := by
  dsimp only [datsOf]
/-- After the body the buffer of the activations holds the point's block still. -/
theorem after0_0 (P : (c : Dev nD) → Fin ((cfgA m).N + 1) → sProp 𝕄) (out : (c : Dev nD) → OutOf m) (c : Dev nD) (t : Fin (cfgA m).N) : (datsOf m P out 0 c).after 0 t = iblk m c 0 t := by rfl
/-- After the body the buffer of the weights holds the point's block still. -/
theorem after0_1 (P : (c : Dev nD) → Fin ((cfgA m).N + 1) → sProp 𝕄) (out : (c : Dev nD) → OutOf m) (c : Dev nD) (t : Fin (cfgA m).N) : (datsOf m P out 0 c).after 1 t = iblk m c 1 t := by rfl
/-- After the body the buffer of the scales holds the point's block still. -/
theorem after0_2 (P : (c : Dev nD) → Fin ((cfgA m).N + 1) → sProp 𝕄) (out : (c : Dev nD) → OutOf m) (c : Dev nD) (t : Fin (cfgA m).N) : (datsOf m P out 0 c).after 2 t = iblk m c 2 t := by rfl
/-- After the body the output's buffer holds what the proof data says. -/
theorem after0_3 (P : (c : Dev nD) → Fin ((cfgA m).N + 1) → sProp 𝕄) (out : (c : Dev nD) → OutOf m) (c : Dev nD) (t : Fin (cfgA m).N) : (datsOf m P out 0 c).after 3 t = out c t := by rfl
/-- Before the body the buffer of the activations holds the point's block. -/
theorem before0_0 (P : (c : Dev nD) → Fin ((cfgA m).N + 1) → sProp 𝕄) (out : (c : Dev nD) → OutOf m) (c : Dev nD) (t : Fin (cfgA m).N) (d) : (datsOf m P out 0 c).before 0 t d = iblk m c 0 t :=
  before0_0_of m (datsOf m P out 0 c) (A_eq m P out c 0) (after0_0 m P out c) t d
/-- Before the body the buffer of the weights holds the point's block. -/
theorem before0_1 (P : (c : Dev nD) → Fin ((cfgA m).N + 1) → sProp 𝕄) (out : (c : Dev nD) → OutOf m) (c : Dev nD) (t : Fin (cfgA m).N) (d) : (datsOf m P out 0 c).before 1 t d = iblk m c 1 t :=
  before0_1_of m (datsOf m P out 0 c) (A_eq m P out c 1) (after0_1 m P out c) t d
/-- Before the body the buffer of the scales holds the point's block. -/
theorem before0_2 (P : (c : Dev nD) → Fin ((cfgA m).N + 1) → sProp 𝕄) (out : (c : Dev nD) → OutOf m) (c : Dev nD) (t : Fin (cfgA m).N) (d) : (datsOf m P out 0 c).before 2 t d = iblk m c 2 t :=
  before0_2_of m (datsOf m P out 0 c) (A_eq m P out c 2) (after0_2 m P out c) t d

/-- Each window's current staging buffer at a point. -/
abbrev st0 (t : Fin (cfgA m).N) (w : Fin (cfgA m).W) := ((cfgA m).win w).stage ((cfgA m).slots t w)

/-- The body at a point, at the buffers the pipeline calls it with. -/
abbrev bodyAt (t : Fin (cfgA m).N) :=
  cc0_grouped_mx_matmul (F := F) ((cfgA m).grid.coords t) (Memref.whole main_arg1) (Memref.isWhole_whole _)
    (st0 m t 0) (hstage0_0 (((cfgA m).slots t 0).cast nbuf0_0)) (st0 m t 1) (hstage0_1 (((cfgA m).slots t 1).cast nbuf0_1))
    (st0 m t 2) (hstage0_2 (((cfgA m).slots t 2).cast nbuf0_2)) (st0 m t 3) (hstage0_3 (((cfgA m).slots t 3).cast nbuf0_3))
    (Memref.whole cc0_scratch0) (Memref.isWhole_whole _) (Memref.whole cc0_scratch1) (Memref.isWhole_whole _)

/-- The pipeline's body call is the kernel's body at the point's buffers. -/
theorem defs₀_row (t : Fin (cfgA m).N) :
    defs₀ (F := F) .tc (cfgA m).body ((cfgA m).bodyArgs t ((cfgA m).slots t)) = bodyAt m t := by
  unfold defs₀; rw [Defs.onTc_tc]; rfl

/-! ## The frame: the output forgotten -/

/-- The windows a frame says nothing of: the output. -/
def fgt : Fin (cfgA m).W → Bool := fun | 3 => true | _ => false

/-- The frame's invariant: the scratch and the generator register at anything, the table. -/
def ΦF (c : Dev nD) (_ : Fin ((cfgA m).N + 1)) : sProp 𝕄 := iprop(Pipeline.ΦA spec0 c ∗ Pipeline.ΦT pre0 (tbl m) c)

/-- The frame's proof data. -/
abbrev datsF := datsOf m (ΦF m) (fun _ _ => k0_pay1)

/-- The body runs at every point, from the inputs' blocks and the output's buffer at anything. -/
theorem sound_frame (c : Dev nD) (t : Fin (cfgA m).N) :
    iprop(ΦF m c t.castSucc ∗ (datsF m 0 c).owesAt () t.castSucc
      ∗ (∃ d, owns (c : Thread nD τ) (st0 m t 0) fullShare ((datsF m 0 c).before 0 t d))
      ∗ (∃ d, owns (c : Thread nD τ) (st0 m t 1) fullShare ((datsF m 0 c).before 1 t d))
      ∗ (∃ d, owns (c : Thread nD τ) (st0 m t 2) fullShare ((datsF m 0 c).before 2 t d))
      ∗ (∃ X, owns (c : Thread nD τ) (st0 m t 3) fullShare X))
    ⊢ wp frame (wpE (defs₀ (F := F)) Variants.none c none) Set.univ (bodyAt m t) (fun _ =>
      iprop(ΦF m c t.succ ∗ (datsF m 0 c).owesAt () t.succ
        ∗ owns (c : Thread nD τ) (st0 m t 0) fullShare ((datsF m 0 c).after 0 t)
        ∗ owns (c : Thread nD τ) (st0 m t 1) fullShare ((datsF m 0 c).after 1 t)
        ∗ owns (c : Thread nD τ) (st0 m t 2) fullShare ((datsF m 0 c).after 2 t)
        ∗ (∃ X, owns (c : Thread nD τ) (st0 m t 3) fullShare X))) := by
  simp only [before0_0, before0_1, before0_2, after0_0, after0_1, after0_2]
  rw [show (datsF m 0 c).owesAt () t.succ = (datsF m 0 c).owesAt () t.castSucc from rfl]
  unfold ΦF Pipeline.ΦA Pipeline.ΦT Pipeline.prefHeld
  rw [scopedRest0_eq, show (Finset.univ : Finset (Fin pre0.K)) = {0} from rfl, bigSep_singleton]
  unfold owns
  iintro ⟨⟨⟨⟨⟨%f7, H7⟩, ⟨%f8, H8⟩⟩, Hr⟩, H2⟩, Ho, ⟨%d0, %f3, %hf3, H3⟩, ⟨%d1, %f4, %hf4, H4⟩, ⟨%d2, %f5, %hf5, H5⟩, ⟨%d3, %f6, -, H6⟩⟩
  iapply (sound_kernel c ((cfgA m).grid.coords t) _ _ _ _ _ _ _ _ _ _ _ _ _ _ fullShare.right (tbl m 0) f3 f4 f5 f6 f7 f8 _)
  simp only [Memref.view_whole, View.set_whole]
  isplitl [H2]; · iexact H2
  isplitl [H3]; · iexact H3
  isplitl [H4]; · iexact H4
  isplitl [H5]; · iexact H5
  isplitl [H6]; · iexact H6
  isplitl [H7]; · iexact H7
  isplitl [H8]; · iexact H8
  iintro %f6' %f7' %f8' ⟨H2, H3, H4, H5, H6, H7, H8, -⟩
  isplitl [H2 H7 H8 Hr]
  · isplitr [H2]
    · isplitl [H7 H8]
      · isplitl [H7]
        · iexists f7'; iexact H7
        · iexists f8'; iexact H8
      · iexact Hr
    · iexact H2
  isplitl [Ho]; · iexact Ho
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists ((st0 m t 3).view.read (Elt F) f6'); iexists f6'; isplitr; · ipureintro; rfl
  iexact H6

/-- The region's body obligation, the output forgotten. -/
theorem body_frame (c : Dev nD) : BodyObligationLoose (datsF m 0 c) (defs₀ (F := F)) Variants.none () Set.univ (fgt m) := fun t => by
  rw [bigSep_W0, bigSep_W0, defs₀_row]
  exact triple_restated (sound_frame m c t) rfl .rfl fun _ => .rfl

set_option backward.isDefEq.respectTransparency.types false in
set_option maxHeartbeats 800000 in
/-- The run of @main: it ends, every input array as the region found it, every counter at zero. -/
theorem run_frame : θ_run defs (onTc (τ := τ) (main (F := F))) (s₀ m ρ) (fun r =>
    Pipeline.RDat.FramePost (cfgA m) (fun c => (datsF m 0 c).toRForget (fgt m)) (V m) r ∧ r.2.sem = fun _ => 0) :=
  Pipeline.θ_run_frameP_forget (Q' := _) pcfgs (adm m) (datsF m) (0 : Fin 1) launch0 defs₀ Variants.none (fgt m) m ρ main
    (hbody := fun c => body_frame m c) (hshare := fun c => (datsF m 0 c).share_full fun _ => rfl)
    (howed := fun _ _ => rfl) (V := V m) (hmain := hmain m) (hA := A_eq m (ΦF m) _) (hpf := fun c k => by rw [Subsingleton.elim c 0]; rfl)
    (hΦ := fun _ _ => rfl)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => by
    obtain ⟨h, -⟩ := h
    refine ⟨?_, ?_, ?_, ?_⟩
    · have := (h c).1 0
      rw [Pipeline.RDat.ArrAt_in _ 0 rfl] at this
      exact this
    · exact (h c).2 main_arg1 (show main_arg1 ∈ Pipeline.restRefs sig spec0 by decide)
    · have := (h c).1 1
      rw [Pipeline.RDat.ArrAt_in _ 1 rfl] at this
      exact this
    · exact (h c).2 main_arg3 (show main_arg3 ∈ Pipeline.restRefs sig spec0 by decide), h.2⟩) (run_frame m ρ)

end Cert.Proof.Kernel

end
-- ==== Proof.IdealBody.lean ====
/- The kernel body of `KernelIdeal`, run once over symbolic operands: the invariant of its column-tile loop, and the
   body's triple with the contents it leaves named. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the pipeline's run. -/
local notation "𝕄" => MT nD τ sig Unit (Elt F) ℕ (UR sig nD τ) ℕ

/-- No loop variants are counted. -/
abbrev 𝒱₀ : Variants := Variants.none

section Body

variable (c : Dev nD) (i : grid0.Coords) (arg2 : Memref sig .tc .smem S12 .i32) (harg2 : arg2.IsWhole) (arg3 : Memref sig .tc .vmem S1x64x5120 .bf16) (harg3 : arg3.IsWhole) (arg4 : Memref sig .tc .vmem S1x1024x5120 .fp8e4m3) (harg4 : arg4.IsWhole) (arg5 : Memref sig .tc .vmem S1x160x1024 .i8) (harg5 : arg5.IsWhole) (arg6 : Memref sig .tc .vmem S1x64x1024 .bf16) (harg6 : arg6.IsWhole) (arg7 : Memref sig .tc .vmem S64x5120 .bf16) (harg7 : arg7.IsWhole) (arg8 : Memref sig .tc .vmem S160x1024 .i32) (harg8 : arg8.IsWhole)

/-- The column tile that trip `k` of the column-tile loop stores: the accumulated products of the five depth chunks,
    masked to the rows below the size word `v1`. -/
def tile (v1 : Elt F .i32) (X4 : BufTy.Contents (Elt F) arg4.view.ty) (X7 : BufTy.Contents (Elt F) arg7.view.ty)
    (X8 : BufTy.Contents (Elt F) arg8.view.ty) (k : Fin k0_t2_loop.trips) : FVec F S1x64x256 .bf16 :=
  k0_pay8 v1 (st_k0_t3 (F := F) 𝒱₀ c none i arg2 harg2 arg3 harg3 arg4 harg4 arg5 harg5 arg6 harg6 arg7 harg7 arg8 harg8 k (Scf.iv 0#32 1#32 k) X4 X7 X8 (k0_pay6 (F := F)) k0_t3_loop.trips)

/-- The tiles stored by the trips before `k`, last first. -/
def tiles (v1 : Elt F .i32) (X4 : BufTy.Contents (Elt F) arg4.view.ty) (X7 : BufTy.Contents (Elt F) arg7.view.ty)
    (X8 : BufTy.Contents (Elt F) arg8.view.ty) : ℕ → List (View.Piece (Elt F) S1x64x1024 .bf16)
  | 0 => []
  | k + 1 =>
    if h : k < k0_t2_loop.trips then
      ⟨Rect.unit (s := S1x64x1024) (k0_off7 ⟨k, h⟩) S1x64x256.size (k0_off7_inb ⟨k, h⟩), tile c i arg2 harg2 arg3 harg3 arg4 harg4 arg5 harg5 arg6 harg6 arg7 harg7 arg8 harg8 v1 X4 X7 X8 ⟨k, h⟩⟩
        :: tiles v1 X4 X7 X8 k
    else tiles v1 X4 X7 X8 k

/-- The tiles before trip `k + 1` are trip `k`'s in front of those before it. -/
theorem tiles_succ (v1 : Elt F .i32) (X4 : BufTy.Contents (Elt F) arg4.view.ty) (X7 : BufTy.Contents (Elt F) arg7.view.ty)
    (X8 : BufTy.Contents (Elt F) arg8.view.ty) (k : Fin k0_t2_loop.trips) :
    tiles c i arg2 harg2 arg3 harg3 arg4 harg4 arg5 harg5 arg6 harg6 arg7 harg7 arg8 harg8 v1 X4 X7 X8 (k.val + 1)
      = ⟨Rect.unit (s := S1x64x1024) (k0_off7 k) S1x64x256.size (k0_off7_inb k), tile c i arg2 harg2 arg3 harg3 arg4 harg4 arg5 harg5 arg6 harg6 arg7 harg7 arg8 harg8 v1 X4 X7 X8 k⟩
        :: tiles c i arg2 harg2 arg3 harg3 arg4 harg4 arg5 harg5 arg6 harg6 arg7 harg7 arg8 harg8 v1 X4 X7 X8 k.val := by
  rw [tiles, dif_pos k.isLt]

set_option warn.classDefReducibility false in
/-- The column-tile loop's invariant: what the region reads stays at its contents, and the output buffer holds the tiles
    of the trips gone through written over what it held at the loop's entry. -/
@[sl_loop] def loopInv_k0_t2 (v1 : Elt F .i32) (X4 : BufTy.Contents (Elt F) arg4.view.ty) (X7 : BufTy.Contents (Elt F) arg7.view.ty)
    (X8 : BufTy.Contents (Elt F) arg8.view.ty) (G6 : BufTy.Contents (Elt F) arg6.view.ty) :
    LoopInvTy_k0_t2 (F := F) Unit ℕ (UR sig nD τ) ℕ 𝒱₀ c none Set.univ i arg2 harg2 arg3 harg3 arg4 harg4 arg5 harg5 arg6 harg6 arg7 harg7 arg8 harg8 v1 where
  inv := fun k _ => iprop((arg4.view.loc (c : Thread nD τ) ↦[arg4.view.set]{fullShare} X4)
    ∗ (arg7.view.loc (c : Thread nD τ) ↦[arg7.view.set]{fullShare} X7)
    ∗ (arg8.view.loc (c : Thread nD τ) ↦[arg8.view.set]{fullShare} X8)
    ∗ (∃ f, (arg6.view.loc (c : Thread nD τ) ↦[arg6.view.set]{fullShare} f)
        ∗ ⌜f = arg6.view.writes (Elt F) G6 (tiles c i arg2 harg2 arg3 harg3 arg4 harg4 arg5 harg5 arg6 harg6 arg7 harg7 arg8 harg8 v1 X4 X7 X8 k)⌝))
  step := fun k acc => by
    have hk : k.val < 4 := k.isLt
    rw [tiles_succ]
    unfold k0_t2_body
    iintro ⟨H4, H7, H8, ⟨%f, H6, %hf⟩⟩
    sl_exec
    sl_step
    subst hf
    isplitl [H4]; · iexact H4
    isplitl [H7]; · iexact H7
    isplitl [H8]; · iexact H8
    iexists _
    isplitl [H6]; · iexact H6
    ipureintro
    rfl

/-- What one trip of the quantising loop holds: the activations it reads, and the scratch it writes. -/
abbrev Trip1 (X3 : BufTy.Contents (Elt F) arg3.view.ty) (f7 : BufTy.Contents (Elt F) arg7.view.ty) : sProp 𝕄 :=
  iprop((arg3.view.loc (c : Thread nD τ) ↦[arg3.view.set]{fullShare} X3)
    ∗ (arg7.view.loc (c : Thread nD τ) ↦[arg7.view.set]{fullShare} f7))

/-- One trip of the quantising loop, run at a symbolic trip: the pieces it stores into the scratch are what the run finds. -/
def trip1 (k0_h3 : k0_cond3 i = 1#1) (X3 : BufTy.Contents (Elt F) arg3.view.ty) (k : Fin k0_t1_loop.trips) :
    { L : List (View.Piece (Elt F) S64x5120 .bf16) // ∀ f7 : BufTy.Contents (Elt F) arg7.view.ty,
      Trip1 (F := F) c arg3 arg7 X3 f7
      ⊢ wp frame (wpE (defs₀ (F := F)) 𝒱₀ (c : Thread nD τ) none) Set.univ
          (k0_t1_body (F := F) i arg2 harg2 arg3 harg3 arg4 harg4 arg5 harg5 arg6 harg6 arg7 harg7 arg8 harg8 k0_h3 k PUnit.unit)
          (fun _ => Trip1 (F := F) c arg3 arg7 X3 (arg7.view.writes (Elt F) f7 L)) } := by
  have hk : k.val < 20 := Nat.lt_of_lt_of_le k.isLt k0_t1_abs.2.1
  refine ⟨?_, fun f7 => ?run⟩
  case run =>
    unfold k0_t1_body
    iintro ⟨H3, H7⟩
    sl_exec
    sl_step
    sl_close

/-- The pieces stored by the quantising loop's trips before `k`, last first. -/
def pieces1 (k0_h3 : k0_cond3 i = 1#1) (X3 : BufTy.Contents (Elt F) arg3.view.ty) : ℕ → List (View.Piece (Elt F) S64x5120 .bf16)
  | 0 => []
  | k + 1 =>
    if h : k < k0_t1_loop.trips then (trip1 c i arg2 harg2 arg3 harg3 arg4 harg4 arg5 harg5 arg6 harg6 arg7 harg7 arg8 harg8 k0_h3 X3 ⟨k, h⟩).1 ++ pieces1 k0_h3 X3 k
    else pieces1 k0_h3 X3 k

/-- The pieces before trip `k + 1` are trip `k`'s in front of those before it. -/
theorem pieces1_succ (k0_h3 : k0_cond3 i = 1#1) (X3 : BufTy.Contents (Elt F) arg3.view.ty) (k : Fin k0_t1_loop.trips) :
    pieces1 c i arg2 harg2 arg3 harg3 arg4 harg4 arg5 harg5 arg6 harg6 arg7 harg7 arg8 harg8 k0_h3 X3 (k.val + 1)
      = (trip1 c i arg2 harg2 arg3 harg3 arg4 harg4 arg5 harg5 arg6 harg6 arg7 harg7 arg8 harg8 k0_h3 X3 k).1 ++ pieces1 c i arg2 harg2 arg3 harg3 arg4 harg4 arg5 harg5 arg6 harg6 arg7 harg7 arg8 harg8 k0_h3 X3 k.val := by
  rw [pieces1, dif_pos k.isLt]

set_option warn.classDefReducibility false in
/-- The quantising loop's invariant: the activations stay, and the scratch holds the pieces of the trips gone through
    written over what it held at the loop's entry. -/
@[sl_loop] def loopInv_k0_t1 (k0_h3 : k0_cond3 i = 1#1) (X3 : BufTy.Contents (Elt F) arg3.view.ty)
    (G7 : BufTy.Contents (Elt F) arg7.view.ty) :
    LoopInvTy_k0_t1 (F := F) Unit ℕ (UR sig nD τ) ℕ 𝒱₀ c none Set.univ i arg2 harg2 arg3 harg3 arg4 harg4 arg5 harg5 arg6 harg6 arg7 harg7 arg8 harg8 k0_h3 where
  inv := fun k _ => iprop((arg3.view.loc (c : Thread nD τ) ↦[arg3.view.set]{fullShare} X3)
    ∗ (∃ f, (arg7.view.loc (c : Thread nD τ) ↦[arg7.view.set]{fullShare} f)
        ∗ ⌜f = arg7.view.writes (Elt F) G7 (pieces1 c i arg2 harg2 arg3 harg3 arg4 harg4 arg5 harg5 arg6 harg6 arg7 harg7 arg8 harg8 k0_h3 X3 k)⌝))
  step := fun k acc => by
    iintro ⟨H3, ⟨%f, H7, %hf⟩⟩
    iapply (wp_wand_r Idealize.ShloMosaic.frame (wpE (defs₀ (F := F)) 𝒱₀ (c : Thread nD τ) none) Set.univ)
    isplitl [H3 H7]
    · iapply ((trip1 (F := F) c i arg2 harg2 arg3 harg3 arg4 harg4 arg5 harg5 arg6 harg6 arg7 harg7 arg8 harg8 k0_h3 X3 k).2 f)
      isplitl [H3]; · iexact H3
      iexact H7
    · iintro %_ ⟨H3, H7⟩
      isplitl [H3]; · iexact H3
      rw [pieces1_succ]
      iexists _; isplitl [H7]; · iexact H7
      ipureintro; rw [hf, ← View.writes_append]

/-- The size word that the body reads from the table's contents `f2`. -/
def word (f2 : BufTy.Contents (Elt F) arg2.view.ty) : Elt F .i32 :=
  View.readAt (Elt F) arg2.view (Rect.unit (s := S12) (k0_off1 i) S1.size (k0_off1_inb i)).toLoadRect f2 (Shape.Idx.first (show 0 < S1.numel by decide))

/-- What the body leaves: an idle or a zero group leaves the scratch, a zero group stores zeros; a group with rows quantises
    its activations into the scratch at its first column block, decodes its scales, and stores the four column tiles
    computed from the scratch buffers. -/
def Left (f2 : BufTy.Contents (Elt F) arg2.view.ty)
    (f3 : BufTy.Contents (Elt F) arg3.view.ty) (f4 : BufTy.Contents (Elt F) arg4.view.ty) (f5 : BufTy.Contents (Elt F) arg5.view.ty)
    (f6 f6' : BufTy.Contents (Elt F) arg6.view.ty) (f7 f7' : BufTy.Contents (Elt F) arg7.view.ty) (f8' : BufTy.Contents (Elt F) arg8.view.ty) : Prop :=
  (¬ k0_cond2 (word i arg2 f2) = 1#1 → f7' = f7
    ∧ (k0_cond1 (word i arg2 f2) = 1#1 → f6' = arg6.view.writes (Elt F) f6
        [⟨Rect.unit (s := S1x64x1024) ![0, 0, 0] S1x64x1024.size inb_S1x64x1024_S1x64x1024_0_0_0, k0_pay1⟩]))
  ∧ (k0_cond2 (word i arg2 f2) = 1#1 →
      (∃ G8, f8' = arg8.view.writes (Elt F) G8
        [⟨Rect.unit (s := S160x1024) ![0, 0] S160x1024.size inb_S160x1024_S160x1024_0_0,
          k0_pay5 (View.readAt (Elt F) arg5.view (Rect.unit (s := S1x160x1024) ![0, 0, 0] S1x160x1024.size inb_S1x160x1024_S1x160x1024_0_0_0).toLoadRect f5)⟩])
      ∧ (∃ G6, f6' = arg6.view.writes (Elt F) G6
          (tiles c i arg2 harg2 arg3 harg3 arg4 harg4 arg5 harg5 arg6 harg6 arg7 harg7 arg8 harg8 (word i arg2 f2) f4 f7' f8' k0_t2_loop.trips))
      ∧ (∀ h3 : k0_cond3 i = 1#1, ∃ G7, f7' = arg7.view.writes (Elt F) G7 (pieces1 c i arg2 harg2 arg3 harg3 arg4 harg4 arg5 harg5 arg6 harg6 arg7 harg7 arg8 harg8 h3 f3 k0_t1_loop.trips))
      ∧ (¬ k0_cond3 i = 1#1 → f7' = f7))

set_option maxHeartbeats 1000000 in
/-- The kernel body on its operands at any contents runs to the continuation holding what it only reads as it was, and the
    output buffer and the two scratch buffers as `Left` says. -/
theorem sound_kernel (q : PosShare TreeShare) (f2 : BufTy.Contents (Elt F) arg2.view.ty)
    (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty)
    (K : PUnit → sProp 𝕄) :
    iprop((arg2.view.loc (c : Thread nD τ) ↦[arg2.view.set]{q} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (∀ f6' f7' f8', iprop((arg2.view.loc (c : Thread nD τ) ↦[arg2.view.set]{q} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6')
        ∗ (arg7.view.loc (c : Thread nD τ) ↦[arg7.view.set]{fullShare} f7')
        ∗ (arg8.view.loc (c : Thread nD τ) ↦[arg8.view.set]{fullShare} f8')
        ∗ ⌜Left c i arg2 harg2 arg3 harg3 arg4 harg4 arg5 harg5 arg6 harg6 arg7 harg7 arg8 harg8 f2 f3 f4 f5 f6 f6' f7 f7' f8'⌝) -∗ K ⟨⟩))
      ⊢ wp frame (wpE (defs₀ (F := F)) Variants.none c none) Set.univ (cc0_grouped_mx_matmul i arg2 harg2 arg3 harg3 arg4 harg4 arg5 harg5 arg6 harg6 arg7 harg7 arg8 harg8) K := by
  simp only [cc0_grouped_mx_matmul_eq_skeleton]; unfold cc0_grouped_mx_matmul_skel
  iintro ⟨H2, H3, H4, H5, H6, H7, H8, Hk⟩
  sl_exec
  have hw : sound_kernel.sl.r i arg2 f2 = word i arg2 f2 := rfl
  by_cases h2 : k0_cond2 (sound_kernel.sl.r i arg2 f2) = 1#1
  · rw [dif_pos h2]
    by_cases h3 : k0_cond3 i = 1#1
    · rw [dif_pos h3]
      sl_exec
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      ipureintro
      refine ⟨fun h => absurd h2 h, fun _ => ⟨⟨_, rfl⟩, ⟨_, rfl⟩, fun _ => ⟨_, rfl⟩, fun h => absurd h3 h⟩⟩
    · rw [dif_neg h3]
      sl_exec
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      ipureintro
      refine ⟨fun h => absurd h2 h, fun _ => ⟨⟨_, rfl⟩, ⟨_, rfl⟩, fun h => absurd h h3, fun _ => rfl⟩⟩
  · rw [dif_neg h2]
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    ipureintro
    refine ⟨fun _ => ⟨rfl, fun h1 => dif_pos h1⟩, fun h => absurd h h2⟩

end Body

end Cert.Proof.KernelIdeal

end
-- ==== Proof.IdealTable.lean ====
/- The blocks the weight and scale windows read, as functions of the prefetched group sizes: inside their arrays for
   every table, and at a group with rows the group's own block. -/
module

public import proofs.«01_k».proof.Proof.Gen.KernelIdeal

@[expose] public section

noncomputable section

namespace Cert.Proof.KernelIdeal

open Cert.KernelIdeal Cert.KernelIdeal.Gen
open Idealize.ShloMosaic Idealize.ShloMosaic.TcCoe

variable {F : FTy → Type} [FloatOps F]

/-- The last group at or before `n`, among the first `k`, whose size word is positive; minus one when there is none. -/
def grp (n : BitVec 32) (w : ℕ → BitVec 32) : ℕ → BitVec 32
  | 0 => 4294967295#32
  | k + 1 => Scalar.select (Scalar.andi (Scalar.cmpi .sge n (BitVec.ofNat 32 k)) (Scalar.cmpi .sgt (w k) 0#32))
      (BitVec.ofNat 32 k) (grp n w k)

/-- The last positive group among the first `k` is none, or one of them. -/
theorem grp_cases (n : BitVec 32) (w : ℕ → BitVec 32) :
    ∀ k, grp n w k = 4294967295#32 ∨ ∃ j < k, grp n w k = BitVec.ofNat 32 j
  | 0 => .inl rfl
  | k + 1 => by
    unfold grp Scalar.select
    split
    · exact .inr ⟨k, Nat.lt_succ_self _, rfl⟩
    · rcases grp_cases n w k with h | ⟨j, hj, h⟩
      · exact .inl h
      · exact .inr ⟨j, Nat.lt_succ_of_lt hj, h⟩

/-- Comparing two group numbers as words is comparing them. -/
theorem sge_ofNat {a b : ℕ} (ha : a < 12) (hb : b < 12) :
    Scalar.cmpi .sge (BitVec.ofNat 32 a) (BitVec.ofNat 32 b) = BitVec.ofBool (decide (b ≤ a)) := by
  exact (by decide : ∀ a b : Fin 12, Scalar.cmpi .sge (BitVec.ofNat 32 a.val) (BitVec.ofNat 32 b.val)
    = BitVec.ofBool (decide (b.val ≤ a.val))) ⟨a, ha⟩ ⟨b, hb⟩

/-- At a group whose size is positive the last positive group is the group itself. -/
theorem grp_self (w : ℕ → BitVec 32) {e : ℕ} (he : e < 12) (hw : Scalar.cmpi .sgt (w e) 0#32 = 1#1) :
    ∀ k, e < k → k ≤ 12 → grp (BitVec.ofNat 32 e) w k = BitVec.ofNat 32 e
  | 0, h, _ => absurd h (Nat.not_lt_zero _)
  | k + 1, h, hk => by
    unfold grp
    rw [sge_ofNat he (by omega)]
    rcases Nat.lt_or_ge e k with hek | hek
    · rw [show decide (k ≤ e) = false from decide_eq_false (by omega), grp_self w he hw k hek (by omega)]
      unfold Scalar.select Scalar.andi IntOp.andi
      rw [if_neg]
      intro h0; revert h0
      generalize Scalar.cmpi .sgt (w k) 0#32 = x
      revert x; decide
    · obtain rfl : e = k := by omega
      rw [hw]; unfold Scalar.select; rw [if_pos]; simp [Scalar.andi, IntOp.andi]

/-- The group's block number, held at zero or above. -/
def grpIx (n : BitVec 32) (w : ℕ → BitVec 32) : BitVec 32 := Scalar.maxsi (grp n w 12) 0#32

/-- The group that the index maps name is in the table. -/
theorem grpIx_le (n : BitVec 32) (w : ℕ → BitVec 32) : (grpIx n w).toNat ≤ 11 := by
  unfold grpIx
  rcases grp_cases n w 12 with h | ⟨j, hj, h⟩
  · rw [h]; decide
  · rw [h]; exact (by decide : ∀ a : Fin 12, (Scalar.maxsi (BitVec.ofNat 32 a.val) 0#32).toNat ≤ 11) ⟨j, hj⟩

/-- At a group with rows the index maps name that group. -/
theorem grpIx_self (w : ℕ → BitVec 32) {e : ℕ} (he : e < 12) (hw : Scalar.cmpi .sgt (w e) 0#32 = 1#1) :
    (grpIx (BitVec.ofNat 32 e) w).toNat = e := by
  unfold grpIx; rw [grp_self w he hw 12 he (Nat.le_refl _)]
  exact (by decide : ∀ a : Fin 12, (Scalar.maxsi (BitVec.ofNat 32 a.val) 0#32).toNat = a.val) ⟨e, he⟩

/-- The prefetched table's word `k`, inside the table. -/
def tblAt (pf : pre0.Contents (Elt F)) (k : ℕ) (h : k < 12) : BitVec 32 :=
  pf.at 0 (Rect.unit (s := S12) ![k] S1.size (fun | 0 => h)) numel1_S1

/-- The prefetched table's word `k`. -/
def tblWord (pf : pre0.Contents (Elt F)) (k : ℕ) : BitVec 32 :=
  if h : k < 12 then tblAt pf k h else 0#32

/-- The column block: the grid's, or the last one where the group has no row. -/
def colIx (pf : pre0.Contents (Elt F)) (i : grid0.Coords) : BitVec 32 :=
  Scalar.select (Scalar.cmpi .sgt (tblWord pf (i 0).val) 0#32) (BitVec.ofNat 32 (i 1).val) 2#32

/-- There are twelve groups. -/
theorem i0_lt (i : grid0.Coords) : (i 0).val < 12 := (i 0).isLt
/-- There are three column blocks. -/
theorem i1_lt (i : grid0.Coords) : (i 1).val < 3 := (i 1).isLt

/-- The column block that the index maps name is one of the three. -/
theorem colIx_le (pf : pre0.Contents (Elt F)) (i : grid0.Coords) : (colIx pf i).toNat ≤ 2 := by
  unfold colIx Scalar.select
  split
  · exact (by decide : ∀ a : Fin 3, (BitVec.ofNat 32 a.val).toNat ≤ 2) (i 1)
  · decide

/-- The offset of a group's word is the group's number. -/
theorem off1_toNat (i : grid0.Coords) : (Scalar.indexCast (BitVec.ofNat 32 (i 0).val) : Index).toNat = (i 0).val := by
  exact (by decide : ∀ a : Fin 12, (Scalar.indexCast (BitVec.ofNat 32 a.val) : Index).toNat = a.val) (i 0)

/-- The size word the index maps load at the grid's own group. -/
abbrev ownWord (pf : pre0.Contents (Elt F)) (i : grid0.Coords) : BitVec 32 :=
  pf.at 0 (Rect.unit (s := S12) ![(Scalar.indexCast (BitVec.ofNat 32 (i 0).val) : Index).toNat] S1.size (k0_off1_inb i)) numel1_S1

/-- The word loaded at the grid's own group is the table's. -/
theorem ownWord_eq (pf : pre0.Contents (Elt F)) (i : grid0.Coords) : ownWord pf i = tblWord pf (i 0).val := by
  have key : ∀ (n : ℕ) (hn : n = (i 0).val) (h : ∀ a, (![n] : Fin 1 → ℕ) a + S1.size a ≤ S12.size a),
      pf.at 0 (Rect.unit (s := S12) ![n] S1.size h) numel1_S1 = tblWord pf (i 0).val := by
    intro n hn h; subst hn
    exact (show tblAt pf (i 0).val (i0_lt i) = _ by unfold tblWord; rw [dif_pos (i0_lt i)])
  exact key _ (off1_toNat i) _

/-- The column block, from the word at the grid's own group. -/
theorem colIx_own (pf : pre0.Contents (Elt F)) (i : grid0.Coords) :
    Scalar.select (Scalar.cmpi .sgt (ownWord pf i) 0#32) (BitVec.ofNat 32 (i 1).val) 2#32 = colIx pf i := by
  rw [ownWord_eq]; rfl

/-- The block the weight window reads at a grid point. -/
abbrev tf1 (pf : pre0.Contents (Elt F)) (i : grid0.Coords) : Fin 3 → ℕ :=
  cc0_transform_1 (F := F) inb_S12_S1_0 numel1_S1 inb_S12_S1_1 inb_S12_S1_2 inb_S12_S1_3 inb_S12_S1_4 inb_S12_S1_5 inb_S12_S1_6 inb_S12_S1_7 inb_S12_S1_8 inb_S12_S1_9 inb_S12_S1_10 inb_S12_S1_11 k0_off1_inb pf i
/-- The block the scale window reads at a grid point. -/
abbrev tf2 (pf : pre0.Contents (Elt F)) (i : grid0.Coords) : Fin 3 → ℕ :=
  cc0_transform_2 (F := F) inb_S12_S1_0 numel1_S1 inb_S12_S1_1 inb_S12_S1_2 inb_S12_S1_3 inb_S12_S1_4 inb_S12_S1_5 inb_S12_S1_6 inb_S12_S1_7 inb_S12_S1_8 inb_S12_S1_9 inb_S12_S1_10 inb_S12_S1_11 k0_off1_inb pf i

/-- The weight window's block, by group and column. -/
theorem tf1_eq (pf : pre0.Contents (Elt F)) (i : grid0.Coords) :
    tf1 pf i = ![(grpIx (BitVec.ofNat 32 (i 0).val) (tblWord pf)).toNat, (colIx pf i).toNat, 0] := by
  rw [← colIx_own]
  rfl

/-- The scale window's block, by group and column. -/
theorem tf2_eq (pf : pre0.Contents (Elt F)) (i : grid0.Coords) :
    tf2 pf i = ![(grpIx (BitVec.ofNat 32 (i 0).val) (tblWord pf)).toNat, 0, (colIx pf i).toNat] := by
  rw [← colIx_own]
  rfl

/-- Every table keeps the weight and scale blocks inside their arrays, and their transfers word-exact. -/
theorem ok0_all (pf : pre0.Contents (Elt F)) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩⟩
  · change (tf1 pf i a + 1) * S1x1024x5120.size a ≤ S12x3072x5120.size a
    rw [tf1_eq]
    have h1 := grpIx_le (BitVec.ofNat 32 (i 0).val) (tblWord pf)
    have h2 := colIx_le pf i
    match a with
    | 0 => show (_ + 1) * 1 ≤ 12; simp; omega
    | 1 => show (_ + 1) * 1024 ≤ 3072; simp; omega
    | 2 => show (_ + 1) * 5120 ≤ 5120; simp
  · change (tf2 pf i a + 1) * S1x160x1024.size a ≤ S12x160x3072.size a
    rw [tf2_eq]
    have h1 := grpIx_le (BitVec.ofNat 32 (i 0).val) (tblWord pf)
    have h2 := colIx_le pf i
    match a with
    | 0 => show (_ + 1) * 1 ≤ 12; simp; omega
    | 1 => show (_ + 1) * 160 ≤ 160; simp
    | 2 => show (_ + 1) * 1024 ≤ 3072; simp; omega

/-- At a group with rows the weight block is the grid point's own. -/
theorem tf1_self (pf : pre0.Contents (Elt F)) (i : grid0.Coords)
    (h : Scalar.cmpi .sgt (tblWord pf (i 0).val) 0#32 = 1#1) : tf1 pf i = ![(i 0).val, (i 1).val, 0] := by
  rw [tf1_eq, grpIx_self _ (i0_lt i) h]
  unfold colIx Scalar.select
  rw [if_pos (show _ = (1 : BitVec 1) from h)]
  have := i1_lt i
  rw [show (BitVec.ofNat 32 (i 1).val).toNat = (i 1).val by rw [BitVec.toNat_ofNat]; omega]

/-- At a group with rows the scale block is the grid point's own. -/
theorem tf2_self (pf : pre0.Contents (Elt F)) (i : grid0.Coords)
    (h : Scalar.cmpi .sgt (tblWord pf (i 0).val) 0#32 = 1#1) : tf2 pf i = ![(i 0).val, 0, (i 1).val] := by
  rw [tf2_eq, grpIx_self _ (i0_lt i) h]
  unfold colIx Scalar.select
  rw [if_pos (show _ = (1 : BitVec 1) from h)]
  have := i1_lt i
  rw [show (BitVec.ofNat 32 (i 1).val).toNat = (i 1).val by rw [BitVec.toNat_ofNat]; omega]

end Cert.Proof.KernelIdeal

end
-- ==== Proof.IdealRun.lean ====
/- The run of `KernelIdeal`: @main up to its region, the region's proof data, its body at every grid point, and the frame
   claim. -/
module

public import proofs.«01_k».proof.Proof.IdealBody
public import proofs.«01_k».proof.Proof.IdealTable
public import Idealize.ShloMosaic.Lib.Pipeline.FrameBody
public import Idealize.ShloMosaic.Lib.Claim

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resource algebra of the pipeline's run. -/
local notation "𝕄" => MT nD τ sig Unit (Elt F) ℕ (UR sig nD τ) ℕ

variable (m : (ℓ : Loc nD τ sig) → Buf (Elt F) ℓ) (ρ : Dev nD → PrngReg)

/-- The buffers' contents when the region is entered: as launched, the transposed scale bytes computed. -/
def V (c : Dev nD) (b : Ref sig .tc) : Buf (Elt F) ((c : Thread nD τ).loc b) :=
  StableHlo.after (hostOps0 (F := F)) (fun b => m (c, b)) b

/-- The region finds argument 0 as launched. -/
theorem V_main_arg0 (c : Dev nD) : V m c main_arg0 = m ((c : Thread nD τ).loc main_arg0) := rfl
/-- The region finds argument 1 as launched. -/
theorem V_main_arg1 (c : Dev nD) : V m c main_arg1 = m ((c : Thread nD τ).loc main_arg1) := rfl
/-- The region finds argument 2 as launched. -/
theorem V_main_arg2 (c : Dev nD) : V m c main_arg2 = m ((c : Thread nD τ).loc main_arg2) := rfl
/-- The region finds argument 3 as launched. -/
theorem V_main_arg3 (c : Dev nD) : V m c main_arg3 = m ((c : Thread nD τ).loc main_arg3) := rfl

set_option maxHeartbeats 800000 in
/-- @main up to the region: the scale bytes transposed on the host, then the region. -/
theorem hmain : Pipeline.HMainP (Ix := Unit) (Name := ℕ) (U := UR sig nD τ) (Lvl := ℕ) (pcfgs (F := F)) 0 defs₀ 𝒱₀ m (main (F := F)) (V m) :=
  Pipeline.hmainP_prefix pcfgs 0 defs₀ 𝒱₀ m main hostOps0 hostOps0_sub (by simp [hostOps0, StableHlo.unary]) main_chain

/-- The table's contents as the region finds them. -/
def tbl : pre0.Contents (Elt F) := fun k => V m (0 : Dev nD) (pre0.ref k)

/-- The table is admissible, whatever it holds. -/
def adm (_ : Fin 1) : (pcfg0 (F := F)).Adm := ⟨tbl m, ok0_all _⟩

/-- The pipeline at the table's contents. -/
abbrev cfgA : Pipeline.Cfg sig Λ₀ := cfg0 (adm m 0)

/-- Window `w`'s block at point `t`, read off its array as the region finds it. -/
def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

/-- An input window's staging buffer holds its block at every point. -/
theorem before0_0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Before the body the buffer of the weights holds the point's block, for any proof data over the same arrays. -/
theorem before0_1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Before the body the buffer of the scales holds the point's block, for any proof data over the same arrays. -/
theorem before0_2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data, at any invariant and any contents said of the output -/

/-- The contents a statement may give the output's staging buffer, point by point. -/
abbrev OutOf := (t : Fin (cfgA m).N) → Vec F S1x64x1024 .bf16

/-- Proof data: each input's buffer left at its block, the output's at `out`, the invariant `Φ`. -/
def datsOf (Φ : (c : Dev nD) → Fin ((cfgA m).N + 1) → sProp 𝕄) (out : (c : Dev nD) → OutOf m) (_ : Fin 1) (c : Dev nD) :
    Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out c t
  Φ := Φ c
  q _ := fullShare
  owed _ := 0

/-- The proof data's arrays are the ones the region finds. -/
theorem A_eq (P : (c : Dev nD) → Fin ((cfgA m).N + 1) → sProp 𝕄) (out : (c : Dev nD) → OutOf m) (c : Dev nD) (w : Fin (cfgA m).W) : (datsOf m P out 0 c).A w = V m c (Pipeline.arrRef spec0 w) := by
  dsimp only [datsOf]
/-- After the body the buffer of the activations holds the point's block still. -/
theorem after0_0 (P : (c : Dev nD) → Fin ((cfgA m).N + 1) → sProp 𝕄) (out : (c : Dev nD) → OutOf m) (c : Dev nD) (t : Fin (cfgA m).N) : (datsOf m P out 0 c).after 0 t = iblk m c 0 t := by rfl
/-- After the body the buffer of the weights holds the point's block still. -/
theorem after0_1 (P : (c : Dev nD) → Fin ((cfgA m).N + 1) → sProp 𝕄) (out : (c : Dev nD) → OutOf m) (c : Dev nD) (t : Fin (cfgA m).N) : (datsOf m P out 0 c).after 1 t = iblk m c 1 t := by rfl
/-- After the body the buffer of the scales holds the point's block still. -/
theorem after0_2 (P : (c : Dev nD) → Fin ((cfgA m).N + 1) → sProp 𝕄) (out : (c : Dev nD) → OutOf m) (c : Dev nD) (t : Fin (cfgA m).N) : (datsOf m P out 0 c).after 2 t = iblk m c 2 t := by rfl
/-- After the body the output's buffer holds what the proof data says. -/
theorem after0_3 (P : (c : Dev nD) → Fin ((cfgA m).N + 1) → sProp 𝕄) (out : (c : Dev nD) → OutOf m) (c : Dev nD) (t : Fin (cfgA m).N) : (datsOf m P out 0 c).after 3 t = out c t := by rfl
/-- Before the body the buffer of the activations holds the point's block. -/
theorem before0_0 (P : (c : Dev nD) → Fin ((cfgA m).N + 1) → sProp 𝕄) (out : (c : Dev nD) → OutOf m) (c : Dev nD) (t : Fin (cfgA m).N) (d) : (datsOf m P out 0 c).before 0 t d = iblk m c 0 t :=
  before0_0_of m (datsOf m P out 0 c) (A_eq m P out c 0) (after0_0 m P out c) t d
/-- Before the body the buffer of the weights holds the point's block. -/
theorem before0_1 (P : (c : Dev nD) → Fin ((cfgA m).N + 1) → sProp 𝕄) (out : (c : Dev nD) → OutOf m) (c : Dev nD) (t : Fin (cfgA m).N) (d) : (datsOf m P out 0 c).before 1 t d = iblk m c 1 t :=
  before0_1_of m (datsOf m P out 0 c) (A_eq m P out c 1) (after0_1 m P out c) t d
/-- Before the body the buffer of the scales holds the point's block. -/
theorem before0_2 (P : (c : Dev nD) → Fin ((cfgA m).N + 1) → sProp 𝕄) (out : (c : Dev nD) → OutOf m) (c : Dev nD) (t : Fin (cfgA m).N) (d) : (datsOf m P out 0 c).before 2 t d = iblk m c 2 t :=
  before0_2_of m (datsOf m P out 0 c) (A_eq m P out c 2) (after0_2 m P out c) t d

/-- Each window's current staging buffer at a point. -/
abbrev st0 (t : Fin (cfgA m).N) (w : Fin (cfgA m).W) := ((cfgA m).win w).stage ((cfgA m).slots t w)

/-- The body at a point, at the buffers the pipeline calls it with. -/
abbrev bodyAt (t : Fin (cfgA m).N) :=
  cc0_grouped_mx_matmul (F := F) ((cfgA m).grid.coords t) (Memref.whole main_arg1) (Memref.isWhole_whole _)
    (st0 m t 0) (hstage0_0 (((cfgA m).slots t 0).cast nbuf0_0)) (st0 m t 1) (hstage0_1 (((cfgA m).slots t 1).cast nbuf0_1))
    (st0 m t 2) (hstage0_2 (((cfgA m).slots t 2).cast nbuf0_2)) (st0 m t 3) (hstage0_3 (((cfgA m).slots t 3).cast nbuf0_3))
    (Memref.whole cc0_scratch0) (Memref.isWhole_whole _) (Memref.whole cc0_scratch1) (Memref.isWhole_whole _)

/-- The pipeline's body call is the kernel's body at the point's buffers. -/
theorem defs₀_row (t : Fin (cfgA m).N) :
    defs₀ (F := F) .tc (cfgA m).body ((cfgA m).bodyArgs t ((cfgA m).slots t)) = bodyAt m t := by
  unfold defs₀; rw [Defs.onTc_tc]; rfl

/-! ## The frame: the output forgotten -/

/-- The windows a frame says nothing of: the output. -/
def fgt : Fin (cfgA m).W → Bool := fun | 3 => true | _ => false

/-- The frame's invariant: the scratch and the generator register at anything, the table. -/
def ΦF (c : Dev nD) (_ : Fin ((cfgA m).N + 1)) : sProp 𝕄 := iprop(Pipeline.ΦA spec0 c ∗ Pipeline.ΦT pre0 (tbl m) c)

/-- The frame's proof data. -/
abbrev datsF := datsOf m (ΦF m) (fun _ _ => k0_pay1)

/-- The body runs at every point, from the inputs' blocks and the output's buffer at anything. -/
theorem sound_frame (c : Dev nD) (t : Fin (cfgA m).N) :
    iprop(ΦF m c t.castSucc ∗ (datsF m 0 c).owesAt () t.castSucc
      ∗ (∃ d, owns (c : Thread nD τ) (st0 m t 0) fullShare ((datsF m 0 c).before 0 t d))
      ∗ (∃ d, owns (c : Thread nD τ) (st0 m t 1) fullShare ((datsF m 0 c).before 1 t d))
      ∗ (∃ d, owns (c : Thread nD τ) (st0 m t 2) fullShare ((datsF m 0 c).before 2 t d))
      ∗ (∃ X, owns (c : Thread nD τ) (st0 m t 3) fullShare X))
    ⊢ wp frame (wpE (defs₀ (F := F)) Variants.none c none) Set.univ (bodyAt m t) (fun _ =>
      iprop(ΦF m c t.succ ∗ (datsF m 0 c).owesAt () t.succ
        ∗ owns (c : Thread nD τ) (st0 m t 0) fullShare ((datsF m 0 c).after 0 t)
        ∗ owns (c : Thread nD τ) (st0 m t 1) fullShare ((datsF m 0 c).after 1 t)
        ∗ owns (c : Thread nD τ) (st0 m t 2) fullShare ((datsF m 0 c).after 2 t)
        ∗ (∃ X, owns (c : Thread nD τ) (st0 m t 3) fullShare X))) := by
  simp only [before0_0, before0_1, before0_2, after0_0, after0_1, after0_2]
  rw [show (datsF m 0 c).owesAt () t.succ = (datsF m 0 c).owesAt () t.castSucc from rfl]
  unfold ΦF Pipeline.ΦA Pipeline.ΦT Pipeline.prefHeld
  rw [scopedRest0_eq, show (Finset.univ : Finset (Fin pre0.K)) = {0} from rfl, bigSep_singleton]
  unfold owns
  iintro ⟨⟨⟨⟨⟨%f7, H7⟩, ⟨%f8, H8⟩⟩, Hr⟩, H2⟩, Ho, ⟨%d0, %f3, %hf3, H3⟩, ⟨%d1, %f4, %hf4, H4⟩, ⟨%d2, %f5, %hf5, H5⟩, ⟨%d3, %f6, -, H6⟩⟩
  iapply (sound_kernel c ((cfgA m).grid.coords t) _ _ _ _ _ _ _ _ _ _ _ _ _ _ fullShare.right (tbl m 0) f3 f4 f5 f6 f7 f8 _)
  simp only [Memref.view_whole, View.set_whole]
  isplitl [H2]; · iexact H2
  isplitl [H3]; · iexact H3
  isplitl [H4]; · iexact H4
  isplitl [H5]; · iexact H5
  isplitl [H6]; · iexact H6
  isplitl [H7]; · iexact H7
  isplitl [H8]; · iexact H8
  iintro %f6' %f7' %f8' ⟨H2, H3, H4, H5, H6, H7, H8, -⟩
  isplitl [H2 H7 H8 Hr]
  · isplitr [H2]
    · isplitl [H7 H8]
      · isplitl [H7]
        · iexists f7'; iexact H7
        · iexists f8'; iexact H8
      · iexact Hr
    · iexact H2
  isplitl [Ho]; · iexact Ho
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists ((st0 m t 3).view.read (Elt F) f6'); iexists f6'; isplitr; · ipureintro; rfl
  iexact H6

/-- The region's body obligation, the output forgotten. -/
theorem body_frame (c : Dev nD) : BodyObligationLoose (datsF m 0 c) (defs₀ (F := F)) Variants.none () Set.univ (fgt m) := fun t => by
  rw [bigSep_W0, bigSep_W0, defs₀_row]
  exact triple_restated (sound_frame m c t) rfl .rfl fun _ => .rfl

set_option backward.isDefEq.respectTransparency.types false in
set_option maxHeartbeats 800000 in
/-- The run of @main: it ends, every input array as the region found it, every counter at zero. -/
theorem run_frame : θ_run defs (onTc (τ := τ) (main (F := F))) (s₀ m ρ) (fun r =>
    Pipeline.RDat.FramePost (cfgA m) (fun c => (datsF m 0 c).toRForget (fgt m)) (V m) r ∧ r.2.sem = fun _ => 0) :=
  Pipeline.θ_run_frameP_forget (Q' := _) pcfgs (adm m) (datsF m) (0 : Fin 1) launch0 defs₀ Variants.none (fgt m) m ρ main
    (hbody := fun c => body_frame m c) (hshare := fun c => (datsF m 0 c).share_full fun _ => rfl)
    (howed := fun _ _ => rfl) (V := V m) (hmain := hmain m) (hA := A_eq m (ΦF m) _) (hpf := fun c k => by rw [Subsingleton.elim c 0]; rfl)
    (hΦ := fun _ _ => rfl)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => by
    obtain ⟨h, -⟩ := h
    refine ⟨?_, ?_, ?_, ?_⟩
    · have := (h c).1 0
      rw [Pipeline.RDat.ArrAt_in _ 0 rfl] at this
      exact this
    · exact (h c).2 main_arg1 (show main_arg1 ∈ Pipeline.restRefs sig spec0 by decide)
    · have := (h c).1 1
      rw [Pipeline.RDat.ArrAt_in _ 1 rfl] at this
      exact this
    · exact (h c).2 main_arg3 (show main_arg3 ∈ Pipeline.restRefs sig spec0 by decide), h.2⟩) (run_frame m ρ)

end Cert.Proof.KernelIdeal

end
-- ==== Proof.Quant.lean ====
/- Arithmetic of the quantiser at the extended reals: the powers of two that bit patterns denote, the exponent found by
   bisection over bit patterns, and the identity of quantising and dequantising a value of moderate size. -/
module

public import Idealize.ShloMosaic.Lib.ValueIdx
public import Idealize.ShloMosaic.PureOps.Ideal

@[expose] public section

noncomputable section

namespace Cert.Proof.Quant

open Idealize.ShloMosaic

/-- Two to an integer power, as an extended real. -/
def p2 (k : ℤ) : EReal := (((2 : ℝ) ^ k : ℝ) : EReal)

/-- The exponential base two of an integer is that power of two. -/
theorem exp2_int (k : ℤ) : Ideal.exp2 (((k : ℝ) : EReal)) = p2 k := by
  rw [Ideal.exp2_coe, p2]
  congr 1
  exact Real.rpow_intCast 2 k

/-- The bit fields of a float32 given by its exponent field alone. -/
theorem fields_f32 : ∀ n : Fin 256, ((BitVec.ofNat 32 n.val <<< 23 : BitVec 32).extractLsb' 31 1 = 0#1)
    ∧ ((BitVec.ofNat 32 n.val <<< 23 : BitVec 32).extractLsb' 23 8).toNat = n.val
    ∧ ((BitVec.ofNat 32 n.val <<< 23 : BitVec 32).extractLsb' 0 23).toNat = 0 := by decide +kernel

/-- The float whose exponent field is `n` and whose other bits are zero is `2 ^ (n - 127)`. -/
theorem ofBits_pow (n : ℕ) (h1 : 1 ≤ n) (h2 : n ≤ 254) :
    Ideal.ofBits .f32 (BitVec.ofNat 32 n <<< 23) = p2 ((n : ℤ) - 127) := by
  obtain ⟨e1, e2, e3⟩ := fields_f32 ⟨n, by omega⟩
  rw [show Ideal.ofBits .f32 (BitVec.ofNat 32 n <<< 23) = Ideal.ieee 8 23 (BitVec.ofNat 32 n <<< 23) from rfl]
  unfold Ideal.ieee
  simp only [e1, e2, e3, Nat.reduceAdd]
  rw [if_neg (by omega), if_neg (by omega), p2]
  refine congrArg (fun r : ℝ => (r : EReal)) ?_
  simp
  rw [show ((n : ℤ) - 127) = ((n : ℤ) - (2 ^ 7 - 1) - 23) + 23 by norm_num, zpow_add₀ (by norm_num)]
  norm_num
  ring

/-- The float with every exponent bit set and the other bits zero is positive infinity. -/
theorem ofBits_inf : Ideal.ofBits .f32 (BitVec.ofNat 32 255 <<< 23) = ⊤ := by
  simp [Ideal.ofBits, Ideal.ieee]

/-- The bit fields of a bfloat16 given by its exponent field alone. -/
theorem fields_bf16 : ∀ n : Fin 256, ((BitVec.ofNat 16 n.val <<< 7 : BitVec 16).extractLsb' 15 1 = 0#1)
    ∧ ((BitVec.ofNat 16 n.val <<< 7 : BitVec 16).extractLsb' 7 8).toNat = n.val
    ∧ ((BitVec.ofNat 16 n.val <<< 7 : BitVec 16).extractLsb' 0 7).toNat = 0 := by decide +kernel

/-- The half-width float whose exponent field is `n` and whose other bits are zero is `2 ^ (n - 127)`. -/
theorem ofBits_pow16 (n : ℕ) (h1 : 1 ≤ n) (h2 : n ≤ 254) :
    Ideal.ofBits .bf16 (BitVec.ofNat 16 n <<< 7) = p2 ((n : ℤ) - 127) := by
  obtain ⟨e1, e2, e3⟩ := fields_bf16 ⟨n, by omega⟩
  rw [show Ideal.ofBits .bf16 (BitVec.ofNat 16 n <<< 7) = Ideal.ieee 8 7 (BitVec.ofNat 16 n <<< 7) from rfl]
  unfold Ideal.ieee
  simp only [e1, e2, e3, Nat.reduceAdd]
  rw [if_neg (by omega), if_neg (by omega), p2]
  refine congrArg (fun r : ℝ => (r : EReal)) ?_
  simp
  rw [show ((n : ℤ) - 127) = ((n : ℤ) - (2 ^ 7 - 1) - 7) + 7 by norm_num, zpow_add₀ (by norm_num)]
  norm_num
  ring

/-- The multiplier that both programs divide by 448 with, as a real: its bits denote a number just above 1/448. -/
def inv448 : ℝ := 9586981 / 4294967296

/-- The constant near 1/448. -/
theorem ofBits_inv448 : Ideal.ofBits .f32 0x3B124925#32 = ((inv448 : ℝ) : EReal) := by
  simp [Ideal.ofBits, Ideal.ieee, inv448, -EReal.coe_mul]; norm_num

/-- The constant 448. -/
theorem ofBits_448 : Ideal.ofBits .f32 0x43E00000#32 = ((448 : ℝ) : EReal) := by
  simp [Ideal.ofBits, Ideal.ieee, -EReal.coe_mul]; norm_num

/-- The constant -448. -/
theorem ofBits_neg448 : Ideal.ofBits .f32 0xC3E00000#32 = ((-448 : ℝ) : EReal) := by
  simp [Ideal.ofBits, Ideal.ieee, -EReal.coe_mul, -EReal.coe_neg]; norm_num

/-- The constant minus infinity. -/
theorem ofBits_neg_inf : Ideal.ofBits .f32 0xFF800000#32 = ⊥ := by
  simp [Ideal.ofBits, Ideal.ieee]

/-- The constant near 1/448 is positive. -/
theorem inv448_pos : 0 < inv448 := by unfold inv448; norm_num

/-- The multiplier is at least 1/448. -/
theorem one_le_inv448 : 1 ≤ 448 * inv448 := by unfold inv448; norm_num

/-- A real is scaled by `2 ^ (-e)`, clipped to ±448 and scaled back to itself, when its magnitude is at most `a` and
    `a` times the multiplier is under `2 ^ e`. -/
theorem clip_scale (x a : ℝ) (e : ℤ) (hx : |x| ≤ a) (ha : a * inv448 < (2 : ℝ) ^ e) :
    min ((448 : ℝ) : EReal) (max ((-448 : ℝ) : EReal) ((x : EReal) * p2 (-e))) * p2 e = (x : EReal) := by
  have hp : (0 : ℝ) < (2 : ℝ) ^ e := zpow_pos (by norm_num) e
  have hq : (0 : ℝ) < (2 : ℝ) ^ (-e) := zpow_pos (by norm_num) (-e)
  have hpq : (2 : ℝ) ^ (-e) * (2 : ℝ) ^ e = 1 := by
    rw [← zpow_add₀ (by norm_num)]; simp
  have h1 : |x * (2 : ℝ) ^ (-e)| ≤ 448 := by
    rw [abs_mul, abs_of_pos hq]
    have hc := one_le_inv448
    have ha0 : 0 ≤ a := le_trans (abs_nonneg x) hx
    have h2 : a ≤ 448 * (2 : ℝ) ^ e := by nlinarith
    calc |x| * (2 : ℝ) ^ (-e) ≤ a * (2 : ℝ) ^ (-e) := by gcongr
      _ ≤ (448 * (2 : ℝ) ^ e) * (2 : ℝ) ^ (-e) := by gcongr
      _ = 448 := by rw [mul_assoc, mul_comm ((2 : ℝ) ^ e), hpq, mul_one]
  rw [abs_le] at h1
  unfold p2
  rw [← EReal.coe_mul, max_eq_right (EReal.coe_le_coe_iff.2 h1.1), min_eq_right (EReal.coe_le_coe_iff.2 h1.2),
    ← EReal.coe_mul, mul_assoc, hpq, mul_one]

/-- Zero is clipped and scaled to zero. -/
theorem clip_zero (p q : ℤ) :
    min ((448 : ℝ) : EReal) (max ((-448 : ℝ) : EReal) ((0 : EReal) * p2 p)) * p2 q = 0 := by
  rw [zero_mul, max_eq_right (by rw [← EReal.coe_zero]; exact EReal.coe_le_coe_iff.2 (by norm_num)),
    min_eq_right (by rw [← EReal.coe_zero]; exact EReal.coe_le_coe_iff.2 (by norm_num)), zero_mul]

/-! ## The exponent by bisection -/

/-- One step of the bisection: `b` is added to the exponent field `v` when the value is at least the power it names. -/
def step (t : EReal) (v b : BitVec 32) : BitVec 32 :=
  Scalar.select (Ideal.cmp .oge t (Ideal.ofBits .f32 (IntOp.shli .vector (IntOp.addi v b) 23#32))) (IntOp.addi v b) v

/-- What the bisection keeps: the field is zero or names a power at most the value, and the field `w` further names a
    power above it. -/
structure Inv (t : ℝ) (v : BitVec 32) (w : ℕ) : Prop where
  le : v.toNat + w ≤ 256
  lower : v.toNat = 0 ∨ (v.toNat ≤ 254 ∧ (2 : ℝ) ^ ((v.toNat : ℤ) - 127) ≤ t)
  upper : v.toNat + w ≤ 254 → t < (2 : ℝ) ^ (((v.toNat + w : ℕ) : ℤ) - 127)

/-- Shifting a word left by 23 places. -/
theorem shl_eq (v : BitVec 32) : IntOp.shli .vector v 23#32 = BitVec.ofNat 32 v.toNat <<< 23 := by
  unfold IntOp.shli
  rw [if_pos (by decide)]
  simp

/-- A step of `b` halves a bracket of width `2 b`. -/
theorem step_inv {t : ℝ} {v : BitVec 32} {b : ℕ} (hb : 1 ≤ b) (h : Inv t v (b + b)) :
    Inv t (step (t : EReal) v (BitVec.ofNat 32 b)) b := by
  have hle := h.le
  have hadd : (IntOp.addi v (BitVec.ofNat 32 b)).toNat = v.toNat + b := by
    unfold IntOp.addi
    rw [BitVec.toNat_add, BitVec.toNat_ofNat]
    omega
  unfold step
  rw [shl_eq, hadd]
  by_cases hbig : v.toNat + b = 255
  · have hc : Ideal.cmp .oge (t : EReal) (Ideal.ofBits .f32 (BitVec.ofNat 32 (v.toNat + b) <<< 23)) = 0#1 := by
      rw [hbig, ofBits_inf]; simp [Ideal.cmp]
    rw [hc, show Scalar.select 0#1 (IntOp.addi v (BitVec.ofNat 32 b)) v = v from rfl]
    exact ⟨by omega, h.lower, fun hh => by omega⟩
  · rw [ofBits_pow _ (by omega) (by omega)]
    by_cases hc : (2 : ℝ) ^ (((v.toNat + b : ℕ) : ℤ) - 127) ≤ t
    · have hc' : Ideal.cmp .oge (t : EReal) (p2 (((v.toNat + b : ℕ) : ℤ) - 127)) = 1#1 := by
        unfold Ideal.cmp p2
        simp only [EReal.coe_le_coe_iff, hc, decide_true]; rfl
      rw [hc', show Scalar.select 1#1 (IntOp.addi v (BitVec.ofNat 32 b)) v = IntOp.addi v (BitVec.ofNat 32 b) from rfl]
      refine ⟨by omega, Or.inr ⟨by omega, by rw [hadd]; exact hc⟩, fun hh => ?_⟩
      rw [hadd] at hh ⊢
      rw [add_assoc]
      exact h.upper (by omega)
    · have hc' : Ideal.cmp .oge (t : EReal) (p2 (((v.toNat + b : ℕ) : ℤ) - 127)) = 0#1 := by
        unfold Ideal.cmp p2
        simp only [EReal.coe_le_coe_iff, hc, decide_false]; rfl
      rw [hc', show Scalar.select 0#1 (IntOp.addi v (BitVec.ofNat 32 b)) v = v from rfl]
      exact ⟨by omega, h.lower, fun _ => not_le.1 hc⟩

/-- The bisection: eight steps, from 128 down to 1. -/
def expo (t : EReal) : BitVec 32 :=
  step t (step t (step t (step t (step t (step t (step t (step t 0#32 128#32) 64#32) 32#32) 16#32) 8#32) 4#32) 2#32) 1#32

/-- The bisection ends at a bracket of width one. -/
theorem expo_inv (t : ℝ) : Inv t (expo t) 1 := by
  have h0 : Inv t 0#32 (128 + 128) := ⟨by simp, Or.inl rfl, fun h => by simp at h⟩
  unfold expo
  exact step_inv (b := 1) (by omega) (step_inv (b := 2) (by omega) (step_inv (b := 4) (by omega)
    (step_inv (b := 8) (by omega) (step_inv (b := 16) (by omega) (step_inv (b := 32) (by omega)
      (step_inv (b := 64) (by omega) (step_inv (b := 128) (by omega) h0)))))))

/-- The field after the test for a value unequal to itself. -/
def field (t : EReal) : BitVec 32 := Scalar.select (Ideal.cmp .one t t) 255#32 (expo t)

/-- The unbiased exponent the kernel scales by. -/
def expOf (t : EReal) : BitVec 32 :=
  Scalar.select (IntOp.cmpi .eq (field t) 0#32) 0#32 (IntOp.subi (field t) 126#32)

/-- One element quantised and dequantised as the kernel does it, from the block's scaled maximum `t`. -/
def qd (x t : EReal) : EReal :=
  min (Ideal.ofBits .f32 0x43E00000#32) (max (Ideal.ofBits .f32 0xC3E00000#32)
      (x * Ideal.ofBits .f32 (IntOp.shli .vector (IntOp.subi 127#32 (expOf t)) 23#32)))
    * Ideal.ofBits .f32 (IntOp.shli .vector (IntOp.addi 127#32 (expOf t)) 23#32)

/-- No value differs from itself. -/
theorem cmp_one_self (t : EReal) : Ideal.cmp .one t t = 0#1 := by
  unfold Ideal.cmp
  dsimp only
  rw [decide_eq_false (fun h => h rfl)]
  rfl

/-- So the field is the bisection's. -/
theorem field_eq (t : EReal) : field t = expo t :=
  (congrArg (fun c => Scalar.select c 255#32 (expo t)) (cmp_one_self t)).trans (ValueIdx.select_zero _ _)

/-- A power of two under a number under `2 ^ 121` has an exponent under 121. -/
theorem lt_of_pow {t : ℝ} (ht : t < (2 : ℝ) ^ (121 : ℤ)) {n : ℤ} (h : (2 : ℝ) ^ n ≤ t) : n < 121 :=
  (zpow_lt_zpow_iff_right₀ (by norm_num : (1 : ℝ) < 2)).1 (lt_of_le_of_lt h ht)

/-- The exponent from its field, and its two scale fields, for each field up to 247: by evaluation. -/
theorem scale_fields : ∀ n : Fin 248,
    let e : BitVec 32 := Scalar.select (IntOp.cmpi .eq (BitVec.ofNat 32 n.val) 0#32) 0#32 (IntOp.subi (BitVec.ofNat 32 n.val) 126#32)
    (IntOp.subi 127#32 e).toNat = (if n.val = 0 then 127 else 253 - n.val)
      ∧ (IntOp.addi 127#32 e).toNat = (if n.val = 0 then 127 else n.val + 1) := by decide +kernel

/-- The kernel's exponent, for a scaled maximum under `2 ^ 121`: a power of two above it, whose two scale patterns are
    normal. -/
theorem expOf_spec (t : ℝ) (ht : t < (2 : ℝ) ^ (121 : ℤ)) :
    ∃ e : ℤ, -125 ≤ e ∧ e ≤ 122 ∧ t < (2 : ℝ) ^ e
      ∧ ((IntOp.subi 127#32 (expOf t)).toNat : ℤ) = 127 - e
      ∧ ((IntOp.addi 127#32 (expOf t)).toNat : ℤ) = 127 + e := by
  have hi := expo_inv t
  unfold expOf
  rw [field_eq]
  generalize expo (t : EReal) = v at hi
  have hv : v.toNat ≤ 247 := by
    rcases hi.lower with h | ⟨_, h⟩
    · omega
    · have h3 := lt_of_pow ht h
      omega
  have hu := hi.upper (by omega)
  have hs := scale_fields ⟨v.toNat, by omega⟩
  rw [show BitVec.ofNat 32 v.toNat = v by simp] at hs
  obtain ⟨s1, s2⟩ := hs
  rw [s1, s2]
  dsimp only
  by_cases h0 : v.toNat = 0
  · refine ⟨0, by omega, by omega, ?_, by rw [if_pos h0]; rfl, by rw [if_pos h0]; rfl⟩
    refine lt_trans hu ?_
    exact (zpow_lt_zpow_iff_right₀ (by norm_num : (1 : ℝ) < 2)).2 (by rw [h0]; norm_num)
  · refine ⟨(v.toNat : ℤ) - 126, by omega, by omega, ?_, by rw [if_neg h0]; omega, by rw [if_neg h0]; omega⟩
    rwa [show (((v.toNat + 1 : ℕ) : ℤ) - 127) = (v.toNat : ℤ) - 126 by omega] at hu

/-- Quantising and dequantising a real of a block is the identity, when the block's scaled maximum is under `2 ^ 121`. -/
theorem qd_eq (x a : ℝ) (hx : |x| ≤ a) (ha : a * inv448 < (2 : ℝ) ^ (121 : ℤ)) :
    qd (x : EReal) ((a * inv448 : ℝ) : EReal) = (x : EReal) := by
  obtain ⟨e, h1, h2, h3, e1, e2⟩ := expOf_spec _ ha
  unfold qd
  rw [shl_eq, shl_eq, ofBits_pow _ (by omega) (by omega), ofBits_pow _ (by omega) (by omega), ofBits_448, ofBits_neg448,
    e1, e2, show 127 - e - 127 = -e by omega, show 127 + e - 127 = e by omega]
  exact clip_scale x a e hx h3

/-! ## A block's maximum -/

/-- The largest magnitude among finitely many reals at most `B`, folded from negative infinity, is a real at most `B`
    that bounds each magnitude. -/
theorem fold_max_abs {n : ℕ} (hn : 0 < n) (f : Fin n → ℝ) (B : ℝ) (hB : ∀ i, |f i| ≤ B) :
    ∃ a : ℝ, (Finset.univ : Finset (Fin n)).fold max (⊥ : EReal) (fun i => max (f i : EReal) (-(f i : EReal))) = (a : EReal)
      ∧ a ≤ B ∧ ∀ i, |f i| ≤ a := by
  have habs : ∀ i, max (f i : EReal) (-(f i : EReal)) = ((|f i| : ℝ) : EReal) := fun i => by
    rw [← EReal.coe_neg, abs_eq_max_neg, (EReal.coe_strictMono.monotone.map_max : ((max (f i) (-f i) : ℝ) : EReal) = _)]
  simp only [habs]
  set S := (Finset.univ : Finset (Fin n)).fold max (⊥ : EReal) (fun i => ((|f i| : ℝ) : EReal)) with hS
  have hle : S ≤ (B : EReal) := by
    rw [hS, Finset.fold_max_le]
    exact ⟨bot_le, fun i _ => EReal.coe_le_coe_iff.2 (hB i)⟩
  have hge : ∀ i, ((|f i| : ℝ) : EReal) ≤ S := fun i => by
    rw [hS, Finset.le_fold_max]
    exact Or.inr ⟨i, Finset.mem_univ _, le_refl _⟩
  have hbot : S ≠ ⊥ := fun h => by
    have := hge ⟨0, hn⟩
    rw [h] at this
    exact absurd (le_bot_iff.1 this) (EReal.coe_ne_bot _)
  have htop : S ≠ ⊤ := fun h => by
    rw [h] at hle
    exact absurd (top_le_iff.1 hle) (EReal.coe_ne_top _)
  refine ⟨S.toReal, (EReal.coe_toReal htop hbot).symm, ?_, fun i => ?_⟩
  · rw [← EReal.coe_le_coe_iff, EReal.coe_toReal htop hbot]; exact hle
  · rw [← EReal.coe_le_coe_iff, EReal.coe_toReal htop hbot]; exact hge i

/-- The largest finite activation. -/
def big : ℝ := 255 * 2 ^ 120

/-- A real of at most the largest finite activation's magnitude. -/
def Small (x : EReal) : Prop := ∃ r : ℝ, x = (r : EReal) ∧ |r| ≤ big

/-- Scaled by the multiplier, the largest finite activation is under `2 ^ 121`. -/
theorem big_lt {a : ℝ} (h : a ≤ big) : a * inv448 < (2 : ℝ) ^ (121 : ℤ) := by
  have hp := inv448_pos
  calc a * inv448 ≤ big * inv448 := by gcongr
    _ < _ := by unfold big inv448; norm_num

end Cert.Proof.Quant

end

end
-- ==== Proof.IdealQuant.lean ====
/- The quantising loop's trip of `KernelIdeal`: what it stores is what it loads, over the extended reals. -/
module

public import proofs.«01_k».proof.Proof.IdealBody
public import proofs.«01_k».proof.Proof.Quant
public import Idealize.ShloMosaic.Lib.ValueIdx
public import Idealize.ShloMosaic.Lib.ValueLayout
public import Idealize.ShloMosaic.Lib.MatmulPlain
public import Idealize.ShloMosaic.Lib.BitcastPair

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx
open Cert.Proof.Quant

section Vec
variable {F : FTy → Type} [FloatOps F]

/-- One bisection step on a row of 128 columns. -/
def vstep (t : FVec F S1x128 .f32) (v : IVec S1x128 32) (b : BitVec 32) : IVec S1x128 32 :=
  select (cmpf .oge t (bitcastToFloat .f32 (shli (addi v (broadcast S1x128 b)) (broadcast S1x128 23#32))))
    (addi v (broadcast S1x128 b)) v

/-- The eight steps. -/
def vexpo (t : FVec F S1x128 .f32) : IVec S1x128 32 :=
  vstep t (vstep t (vstep t (vstep t (vstep t (vstep t (vstep t (vstep t (broadcast S1x128 0#32) 128#32) 64#32) 32#32) 16#32)
    8#32) 4#32) 2#32) 1#32

/-- The field, after the test for a value unequal to itself. -/
def vfield (t : FVec F S1x128 .f32) : IVec S1x128 32 :=
  select (cmpf .one t t) (broadcast S1x128 255#32) (vexpo t)

/-- The unbiased exponent. -/
def vexpOf (t : FVec F S1x128 .f32) : IVec S1x128 32 :=
  select (cmpi .eq (vfield t) (broadcast S1x128 0#32)) (broadcast S1x128 0#32) (subi (vfield t) (broadcast S1x128 126#32))

/-- The scaled maximum of each column of a block of 32 rows. -/
def vmax (V : FVec F S32x128 .f32) : FVec F S1x128 .f32 :=
  mulf (shapeCast S1x128 (multiReduction .maximumf [0] S128 (absf V) 0xFF800000#32 reduces_S32x128_S128 (.inl rfl) rfl)
      shapeCasts_S128_S1x128)
    (broadcast S1x128 (Scalar.ofBits .f32 0x3B124925#32))

/-- A block quantised and dequantised, given its columns' scaled maxima. -/
def vquantAt (V : FVec F S32x128 .f32) (t : FVec F S1x128 .f32) : FVec F S32x128 .bf16 :=
  truncf .bf16 (mulf (extf .f32 (truncf .fp8e4m3
        (minimumf (broadcast S32x128 (Scalar.ofBits .f32 0x43E00000#32))
          (maximumf (broadcast S32x128 (Scalar.ofBits .f32 0xC3E00000#32))
            (mulf V (broadcastTo S32x128 (bitcastToFloat .f32 (shli (subi (broadcast S1x128 127#32) (vexpOf t)) (broadcast S1x128 23#32)))
              broadcasts_S1x128_S32x128)))) bitsLt_fp8e4m3_f32) bitsLt_fp8e4m3_f32)
      (broadcastTo S32x128 (bitcastToFloat .f32 (shli (addi (broadcast S1x128 127#32) (vexpOf t)) (broadcast S1x128 23#32)))
        broadcasts_S1x128_S32x128)) bitsLt_bf16_f32

/-- A block quantised and dequantised. -/
def vquant (V : FVec F S32x128 .f32) : FVec F S32x128 .bf16 := vquantAt V (vmax V)

section Trip

variable (i : grid0.Coords) (arg3 : Memref sig .tc .vmem S1x64x5120 .bf16) (h3 : k0_cond3 i = 1#1)
  (X3 : BufTy.Contents (Elt F) arg3.view.ty) (k : Fin k0_t1_loop.trips)

/-- The first of a trip's blocks of 32 rows, quantised. -/
theorem trip1_q0 : trip1.sl.r_7 i arg3 h3 X3 k
    = vquant (extf .f32 (extractStridedSlice S32x128 ![0, 0] (trip1.sl.r i arg3 h3 X3 k) slices_S128x128_o0_0_S32x128) bitsLt_bf16_f32) := rfl

/-- The second of them. -/
theorem trip1_q1 : trip1.sl.r_15 i arg3 h3 X3 k
    = vquant (extf .f32 (extractStridedSlice S32x128 ![32, 0] (trip1.sl.r i arg3 h3 X3 k) slices_S128x128_o32_0_S32x128) bitsLt_bf16_f32) := rfl

/-- The third of them. -/
theorem trip1_q2 : trip1.sl.r_20 i arg3 h3 X3 k
    = vquant (extf .f32 (extractStridedSlice S32x128 ![64, 0] (trip1.sl.r i arg3 h3 X3 k) slices_S128x128_o64_0_S32x128) bitsLt_bf16_f32) := rfl

/-- The blocks of a trip side by side, transposed back. -/
def vjoin (T : FVec F S128x128 .bf16) : FVec F S128x128 .bf16 :=
  transpose S128x128 [1, 0]
    (concatenate S128x128 0
      [⟨S32x128, vquant (extf .f32 (extractStridedSlice S32x128 ![0, 0] T slices_S128x128_o0_0_S32x128) bitsLt_bf16_f32)⟩,
       ⟨S32x128, vquant (extf .f32 (extractStridedSlice S32x128 ![32, 0] T slices_S128x128_o32_0_S32x128) bitsLt_bf16_f32)⟩,
       ⟨S32x128, vquant (extf .f32 (extractStridedSlice S32x128 ![64, 0] T slices_S128x128_o64_0_S32x128) bitsLt_bf16_f32)⟩,
       ⟨S32x128, vquant (extf .f32 (extractStridedSlice S32x128 ![96, 0] T slices_S128x128_o96_0_S32x128) bitsLt_bf16_f32)⟩]
      concatenates_S32x128_S32x128_S32x128_S32x128_S128x128_d0) transposes_S128x128_p1_0_S128x128

/-- A trip's four blocks, joined. -/
theorem trip1_join : k0_pay2 (trip1.sl.r_7 i arg3 h3 X3 k) (trip1.sl.r_15 i arg3 h3 X3 k) (trip1.sl.r_20 i arg3 h3 X3 k)
      (trip1.sl.r_21 i arg3 h3 X3 k) (trip1.sl.r_26 i arg3 h3 X3 k) (trip1.sl.r_27 i arg3 h3 X3 k)
    = vjoin (trip1.sl.r i arg3 h3 X3 k) := by
  rw [trip1_q0, trip1_q1, trip1_q2]
  rfl

end Trip

end Vec

/-! ## Read at an index -/

/-- A bisection step read at a column. -/
theorem vstep_apply (t : FVec Ideal S1x128 .f32) (v : IVec S1x128 32) (b : BitVec 32) (j : S1x128.Idx) :
    vstep t v b j = step (t j) (v j) b := rfl

/-- The exponent field of a row, at an element. -/
theorem vexpo_apply (t : FVec Ideal S1x128 .f32) (j : S1x128.Idx) : vexpo t j = expo (t j) := by
  unfold vexpo expo
  simp only [vstep_apply, broadcast_apply]

/-- The exponent of a row, at an element. -/
theorem vexpOf_apply (t : FVec Ideal S1x128 .f32) (j : S1x128.Idx) : vexpOf t j = expOf (t j) := by
  have h : vfield t j = field (t j) := by
    show Scalar.select _ _ (vexpo t j) = _
    rw [vexpo_apply]; rfl
  show Scalar.select (IntOp.cmpi .eq (vfield t j) 0#32) 0#32 (IntOp.subi (vfield t j) 126#32) = _
  rw [h]; rfl

/-- A quantised block read at an element. -/
theorem vquantAt_apply (V : FVec Ideal S32x128 .f32) (t : FVec Ideal S1x128 .f32) (r : Fin 32) (c : Fin 128) :
    vquantAt V t (ix2 r c) = qd (V (ix2 r c)) (t (ix2 (0 : Fin 1) c)) := by
  unfold vquantAt
  show min _ (max _ (V (ix2 r c) * broadcastTo S32x128 _ _ (ix2 r c))) * broadcastTo S32x128 _ _ (ix2 r c) = _
  rw [broadcastTo_1b_ab_apply, broadcastTo_1b_ab_apply]
  show min _ (max _ (_ * Ideal.ofBits .f32 (IntOp.shli .vector (IntOp.subi 127#32 (vexpOf t (ix2 (0 : Fin 1) c))) 23#32)))
    * Ideal.ofBits .f32 (IntOp.shli .vector (IntOp.addi 127#32 (vexpOf t (ix2 (0 : Fin 1) c))) 23#32) = _
  rw [vexpOf_apply]
  rfl

/-- A column's scaled maximum. -/
theorem vmax_apply (V : FVec Ideal S32x128 .f32) (c : Fin 128) :
    vmax V (ix2 (0 : Fin 1) c)
      = (Finset.univ : Finset (Fin 32)).fold max (⊥ : EReal) (fun r => max (V (ix2 r c)) (-(V (ix2 r c))))
        * ((inv448 : ℝ) : EReal) := by
  unfold vmax
  show shapeCast S1x128 _ _ (ix2 (0 : Fin 1) c) * Ideal.ofBits .f32 0x3B124925#32 = _
  rw [ofBits_inv448, shapeCast_a_1a_apply]
  congr 1
  refine (Ideal.multiReduction_maximumf_single (absf V) _ _ _ _ _).trans ?_
  show Finset.fold max (Ideal.ofBits .f32 0xFF800000#32) _ _ = _
  rw [ofBits_neg_inf]
  refine Finset.fold_congr fun r _ => ?_
  have e : reduces_S32x128_S128.lift (ix1 c) r = ix2 r c := by
    funext a; apply Fin.ext
    match a with
    | ⟨0, _⟩ => rfl
    | ⟨1, _⟩ => rfl
  show max (V _) (-(V _)) = _
  rw [e]
  rfl

/-- A block of reals of at most the largest activation is its own quantisation. -/
theorem vquant_id (V : FVec Ideal S32x128 .f32) (h : ∀ j, Small (V j)) :
    vquant V = V := by
  choose f hV hf using h
  funext j
  obtain ⟨r, c, rfl⟩ : ∃ (r : Fin 32) (c : Fin 128), j = ix2 r c := ⟨j 0, j 1, eq_ix2 j⟩
  unfold vquant
  rw [vquantAt_apply, vmax_apply]
  obtain ⟨a, ea, ha, hle⟩ := fold_max_abs (n := 32) (by decide) (fun r => f (ix2 r c)) big (fun r => hf _)
  simp only [hV]
  rw [ea, ← EReal.coe_mul]
  exact qd_eq _ _ (hle r) (big_lt ha)

/-- So joining the quantised blocks of a transposed tile of such reals gives the tile transposed back. -/
theorem vjoin_id (T : FVec Ideal S128x128 .bf16) (hT : ∀ j, Small (T j))
    (r c : Fin 128) : vjoin T (ix2 r c) = T (ix2 c r) := by
  have hq : ∀ (o : ℕ) (h : S128x128.Slices ![o, 0] S32x128),
      vquant (F := Ideal) (extf .f32 (extractStridedSlice S32x128 ![o, 0] T h) bitsLt_bf16_f32)
        = extractStridedSlice S32x128 ![o, 0] T h := fun o h => by
    have hs : ∀ j, Small (extf (F := Ideal) .f32 (extractStridedSlice S32x128 ![o, 0] T h) bitsLt_bf16_f32 j) := fun j => hT _
    rw [vquant_id _ hs]
    rfl
  unfold vjoin
  rw [transpose_ix2_apply, hq, hq, hq, hq]
  refine (concatenate_ofFn_apply (s₁ := S32x128) (t := S128x128) 0 (N := 4)
    (fun n => extractStridedSlice S32x128 ![32 * n.val, 0] T (by
      revert n; decide)) concatenates_S32x128_S32x128_S32x128_S32x128_S128x128_d0 rfl 32 rfl (ix2 c r)
      ⟨c.val / 32, by omega⟩ rfl (ix2 ⟨c.val % 32, Nat.mod_lt _ (by decide)⟩ r) rfl ?_).trans ?_
  · intro b hb
    match b with
    | ⟨0, _⟩ => exact absurd rfl hb
    | ⟨1, _⟩ => rfl
  · exact slice2_axis0_apply _ T _ _ r c (by show c.val = 32 * (c.val / 32) + c.val % 32; omega)

end Cert.Proof.KernelIdeal

end

end
-- ==== Proof.IdealDot.lean ====
/- One trip of `KernelIdeal`'s contraction loop: the product it adds, read at an element over the extended reals. -/
module

public import proofs.«01_k».proof.Proof.IdealQuant
public import Idealize.ShloMosaic.Lib.VecWindow

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx
open Cert.Proof.Quant

section Vec
variable {F : FTy → Type} [FloatOps F]

/-- Thirty-two rows of a transposed weight tile, each column times its scale. -/
def wpart (o : ℕ) (h : S128x128.Slices ![o, 0] S32x128) (T : FVec F S128x128 .fp8e4m3) (s : Vec F S1x128 .i32) : FVec F S32x128 .bf16 :=
  mulf (extf .bf16 (extractStridedSlice S32x128 ![o, 0] T h) bitsLt_fp8e4m3_bf16)
    (bitcastToFloat .bf16 (bitcast S32x128 16 (broadcastTo S16x128 (shapeCast S1x128 s shapeCasts_S1x128_S1x128)
      broadcasts_S1x128_S16x128) bitcasts_S16x128_w32_S32x128_w16))

/-- A weight tile transposed and scaled. -/
def wblk (V : Vec F S1x128x128 .fp8e4m3) (s : Fin 4 → Vec F S1x128 .i32) : FVec F S128x128 .bf16 :=
  concatenate S128x128 0
    [⟨S32x128, wpart 0 slices_S128x128_o0_0_S32x128 (transpose S128x128 [1, 0] (shapeCast S128x128 V shapeCasts_S1x128x128_S128x128) transposes_S128x128_p1_0_S128x128) (s 0)⟩,
     ⟨S32x128, wpart 32 slices_S128x128_o32_0_S32x128 (transpose S128x128 [1, 0] (shapeCast S128x128 V shapeCasts_S1x128x128_S128x128) transposes_S128x128_p1_0_S128x128) (s 1)⟩,
     ⟨S32x128, wpart 64 slices_S128x128_o64_0_S32x128 (transpose S128x128 [1, 0] (shapeCast S128x128 V shapeCasts_S1x128x128_S128x128) transposes_S128x128_p1_0_S128x128) (s 2)⟩,
     ⟨S32x128, wpart 96 slices_S128x128_o96_0_S32x128 (transpose S128x128 [1, 0] (shapeCast S128x128 V shapeCasts_S1x128x128_S128x128) transposes_S128x128_p1_0_S128x128) (s 3)⟩]
    concatenates_S32x128_S32x128_S32x128_S32x128_S128x128_d0

/-- Two tiles side by side. -/
def wchunk (V : Fin 2 → Vec F S1x128x128 .fp8e4m3) (s : Fin 2 → Fin 4 → Vec F S1x128 .i32) : FVec F S128x256 .bf16 :=
  concatenate S128x256 1 [⟨S128x128, wblk (V 0) (s 0)⟩, ⟨S128x128, wblk (V 1) (s 1)⟩] concatenates_S128x128_S128x128_S128x256_d1

/-- Eight of these on top of one another. -/
def wmat (V : Fin 8 → Fin 2 → Vec F S1x128x128 .fp8e4m3) (s : Fin 8 → Fin 2 → Fin 4 → Vec F S1x128 .i32) : FVec F S1024x256 .bf16 :=
  concatenate S1024x256 0
    [⟨S128x256, wchunk (V 0) (s 0)⟩, ⟨S128x256, wchunk (V 1) (s 1)⟩, ⟨S128x256, wchunk (V 2) (s 2)⟩, ⟨S128x256, wchunk (V 3) (s 3)⟩,
     ⟨S128x256, wchunk (V 4) (s 4)⟩, ⟨S128x256, wchunk (V 5) (s 5)⟩, ⟨S128x256, wchunk (V 6) (s 6)⟩, ⟨S128x256, wchunk (V 7) (s 7)⟩]
    concatenates_S128x256_S128x256_S128x256_S128x256_S128x256_S128x256_S128x256_S128x256_S1024x256_d0

section Trip

variable (arg4 : Memref sig .tc .vmem S1x1024x5120 .fp8e4m3) (arg7 : Memref sig .tc .vmem S64x5120 .bf16) (arg8 : Memref sig .tc .vmem S160x1024 .i32)
  (t : Fin k0_t2_loop.trips) (X4 : BufTy.Contents (Elt F) arg4.view.ty) (X7 : BufTy.Contents (Elt F) arg7.view.ty)
  (X8 : BufTy.Contents (Elt F) arg8.view.ty) (k : Fin k0_t3_loop.trips)

/-- A weight tile as loaded. -/
def ldW (b : Fin 8) (a : Fin 2) : Vec F S1x128x128 .fp8e4m3 :=
  View.readAt (Elt F) arg4.view (Rect.unit (s := S1x1024x5120) (k0_off4 t k (BitVec.ofNat 32 (128 * a.val)) (BitVec.ofNat 32 (128 * b.val))) S1x128x128.size
    (k0_off4_inb t k a b)).toLoadRect X4

/-- A row of scale words as loaded. -/
def ldS (b : Fin 8) (a : Fin 2) (r : Fin 4) : Vec F S1x128 .i32 :=
  View.readAt (Elt F) arg8.view (Rect.unit (s := S160x1024) (k0_off5 t k (BitVec.ofNat 32 (128 * b.val)) (BitVec.ofNat 32 r.val) (BitVec.ofNat 32 (128 * a.val))) S1x128.size
    (k0_off5_inb t k b r a)).toLoadRect X8

/-- The activations as loaded. -/
def ldX : Vec F S64x1024 .bf16 :=
  View.readAt (Elt F) arg7.view (Rect.unit (s := S64x5120) (k0_off6 k) S64x1024.size (k0_off6_inb k)).toLoadRect X7

/-- Depth piece 0 of a chunk is its weights, scaled. -/
theorem chunk0 : trip_k0_t3.sl.r_10 arg4 arg8 t X4 X8 k = wchunk (ldW arg4 t X4 k 0) (ldS arg8 t X8 k 0) := rfl
/-- Depth piece 1 of a chunk is its weights, scaled. -/
theorem chunk1 : trip_k0_t3.sl.r_21 arg4 arg8 t X4 X8 k = wchunk (ldW arg4 t X4 k 1) (ldS arg8 t X8 k 1) := rfl
/-- Depth piece 2 of a chunk is its weights, scaled. -/
theorem chunk2 : trip_k0_t3.sl.r_30 arg4 arg8 t X4 X8 k = wchunk (ldW arg4 t X4 k 2) (ldS arg8 t X8 k 2) := rfl
/-- Depth piece 3 of a chunk is its weights, scaled. -/
theorem chunk3 : trip_k0_t3.sl.r_39 arg4 arg8 t X4 X8 k = wchunk (ldW arg4 t X4 k 3) (ldS arg8 t X8 k 3) := rfl
/-- Depth piece 4 of a chunk is its weights, scaled. -/
theorem chunk4 : trip_k0_t3.sl.r_49 arg4 arg8 t X4 X8 k = wchunk (ldW arg4 t X4 k 4) (ldS arg8 t X8 k 4) := rfl
/-- Depth piece 5 of a chunk is its weights, scaled. -/
theorem chunk5 : trip_k0_t3.sl.r_60 arg4 arg8 t X4 X8 k = wchunk (ldW arg4 t X4 k 5) (ldS arg8 t X8 k 5) := rfl
/-- Depth piece 6 of a chunk is its weights, scaled. -/
theorem chunk6 : trip_k0_t3.sl.r_70 arg4 arg8 t X4 X8 k = wchunk (ldW arg4 t X4 k 6) (ldS arg8 t X8 k 6) := rfl
/-- The first scaled block of the last depth piece. -/
theorem blk70 : trip_k0_t3.sl.r_74 arg4 arg8 t X4 X8 k = wblk (ldW arg4 t X4 k 7 0) (ldS arg8 t X8 k 7 0) := rfl

end Trip
variable (c : Dev nD) (i : grid0.Coords) (arg2 : Memref sig .tc .smem S12 .i32) (harg2 : arg2.IsWhole) (arg3 : Memref sig .tc .vmem S1x64x5120 .bf16) (harg3 : arg3.IsWhole) (arg4 : Memref sig .tc .vmem S1x1024x5120 .fp8e4m3) (harg4 : arg4.IsWhole) (arg5 : Memref sig .tc .vmem S1x160x1024 .i8) (harg5 : arg5.IsWhole) (arg6 : Memref sig .tc .vmem S1x64x1024 .bf16) (harg6 : arg6.IsWhole) (arg7 : Memref sig .tc .vmem S64x5120 .bf16) (harg7 : arg7.IsWhole) (arg8 : Memref sig .tc .vmem S160x1024 .i32) (harg8 : arg8.IsWhole)
  (t2 : Fin k0_t2_loop.trips) (v : BitVec 32) (X4 : BufTy.Contents (Elt F) arg4.view.ty) (X7 : BufTy.Contents (Elt F) arg7.view.ty)
  (X8 : BufTy.Contents (Elt F) arg8.view.ty) (k : Fin k0_t3_loop.trips) (acc : FVec F S64x256 .f32)

/-- What a trip of the contraction loop yields. -/
theorem trip3_eq : (trip_k0_t3 (F := F) 𝒱₀ c none i arg2 harg2 arg3 harg3 arg4 harg4 arg5 harg5 arg6 harg6 arg7 harg7 arg8 harg8 t2 v X4 X7 X8 k).1 acc
    = addf acc (matmul dot_S64x1024_S1024x256_S64x256_1_0_0_1_n_n none (ldX arg7 X7 k) (wmat (ldW arg4 t2 X4 k) (ldS arg8 t2 X8 k))
        (constant S64x256 .f32 0#32)) := by
  unfold trip_k0_t3
  dsimp only
  rw [chunk0, chunk1, chunk2, chunk3, chunk4, chunk5, chunk6, blk70]
  rfl

end Vec

end Cert.Proof.KernelIdeal

end

end
-- ==== Proof.IdealTile.lean ====
/- The contraction loop of `KernelIdeal` over the extended reals: the scaled weight matrix read at an element, a trip as a sum
   over a thousand and twenty-four columns, the loop as a sum over all of them. -/
module

public import proofs.«01_k».proof.Proof.IdealDot

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx
open Cert.Proof.Quant

/-- The value of the half of a scale word that row `r` reads. -/
def sval (w : BitVec 32) (r : ℕ) : EReal := Ideal.ofBits .bf16 (w.extractLsb' (16 * (r % 2)) 16)

/-- The scale read from a word depends on the parity of the row only. -/
theorem sval_congr (w : BitVec 32) {r r' : ℕ} (h : r % 2 = r' % 2) : sval w r = sval w r' := by
  unfold sval; rw [h]

/-- Thirty-two scaled rows, read at an element. -/
theorem wpart_apply (o : ℕ) (h : S128x128.Slices ![o, 0] S32x128) (T : FVec Ideal S128x128 .fp8e4m3) (s : Vec Ideal S1x128 .i32)
    (r : Fin 32) (c d : Fin 128) (hd : d.val = o + r.val) :
    wpart (F := Ideal) o h T s (ix2 r c) = T (ix2 d c) * sval (s (ix2 (0 : Fin 1) c)) r.val := by
  unfold wpart
  show extractStridedSlice S32x128 ![o, 0] T h (ix2 r c) * Ideal.ofBits .bf16 (bitcast S32x128 16 _ _ (ix2 r c)) = _
  rw [slice2_axis0_apply o T h r c d hd, bitcast_32_16]
  have e : bitcasts_S16x128_w32_S32x128_w16.srcIdx (ix2 r c) (S32x128.row (ix2 r c) / 2) (fun a ha => by
        have := bitcasts_S16x128_w32_S32x128_w16.pos_lt (ix2 r c) 0 (by decide) a ha; omega) = ix2 (⟨r.val / 2, by omega⟩ : Fin 16) c := by
    funext a; apply Fin.ext
    match a with
    | ⟨0, _⟩ => rfl
    | ⟨1, _⟩ => rfl
  rw [e, broadcastTo_1b_ab_apply, shapeCast_apply s shapeCasts_S1x128_S1x128 (ix2 (0 : Fin 1) c) (ix2 (0 : Fin 1) c) rfl]
  rfl

/-- A scaled tile, read at an element. -/
theorem wblk_apply (V : Vec Ideal S1x128x128 .fp8e4m3) (s : Fin 4 → Vec Ideal S1x128 .i32) (d c : Fin 128) :
    wblk (F := Ideal) V s (ix2 d c)
      = V (ix3 (0 : Fin 1) c d) * sval (s ⟨d.val / 32, by omega⟩ (ix2 (0 : Fin 1) c)) d.val := by
  unfold wblk
  refine (concatenate_ofFn_apply (s₁ := S32x128) (t := S128x128) 0 (N := 4)
    (fun n => wpart (F := Ideal) (32 * n.val) (by revert n; decide) (transpose S128x128 [1, 0] (shapeCast S128x128 V shapeCasts_S1x128x128_S128x128) transposes_S128x128_p1_0_S128x128) (s n))
      concatenates_S32x128_S32x128_S32x128_S32x128_S128x128_d0 rfl 32 rfl (ix2 d c)
      ⟨d.val / 32, by omega⟩ rfl (ix2 ⟨d.val % 32, Nat.mod_lt _ (by decide)⟩ c) rfl ?_).trans ?_
  · intro b hb
    match b with
    | ⟨0, _⟩ => exact absurd rfl hb
    | ⟨1, _⟩ => rfl
  · rw [wpart_apply _ _ _ _ _ _ d (by show d.val = 32 * (d.val / 32) + d.val % 32; omega), transpose_ix2_apply,
      shapeCast_1ab_ab_apply]
    exact congrArg _ (sval_congr _ (by show d.val % 32 % 2 = d.val % 2; omega))

/-- Two tiles side by side, read at an element. -/
theorem wchunk_apply (V : Fin 2 → Vec Ideal S1x128x128 .fp8e4m3) (s : Fin 2 → Fin 4 → Vec Ideal S1x128 .i32) (d : Fin 128) (o : Fin 256) :
    wchunk (F := Ideal) V s (ix2 d o)
      = V ⟨o.val / 128, by omega⟩ (ix3 (0 : Fin 1) (⟨o.val % 128, by omega⟩ : Fin 128) d)
        * sval (s ⟨o.val / 128, by omega⟩ ⟨d.val / 32, by omega⟩ (ix2 (0 : Fin 1) (⟨o.val % 128, by omega⟩ : Fin 128))) d.val := by
  unfold wchunk
  refine (concatenate_ofFn_apply (s₁ := S128x128) (t := S128x256) 1 (N := 2)
    (fun n => wblk (F := Ideal) (V n) (s n))
      concatenates_S128x128_S128x128_S128x256_d1 rfl 128 rfl (ix2 d o)
      ⟨o.val / 128, by omega⟩ rfl (ix2 d (⟨o.val % 128, Nat.mod_lt _ (by decide)⟩ : Fin 128)) rfl ?_).trans ?_
  · intro b hb
    match b with
    | ⟨0, _⟩ => rfl
    | ⟨1, _⟩ => exact absurd rfl hb
  · rw [wblk_apply]

/-- The whole scaled matrix of a trip, read at an element. -/
theorem wmat_apply (V : Fin 8 → Fin 2 → Vec Ideal S1x128x128 .fp8e4m3) (s : Fin 8 → Fin 2 → Fin 4 → Vec Ideal S1x128 .i32)
    (d : Fin 1024) (o : Fin 256) :
    wmat (F := Ideal) V s (ix2 d o)
      = V ⟨d.val / 128, by omega⟩ ⟨o.val / 128, by omega⟩ (ix3 (0 : Fin 1) (⟨o.val % 128, by omega⟩ : Fin 128) (⟨d.val % 128, by omega⟩ : Fin 128))
        * sval (s ⟨d.val / 128, by omega⟩ ⟨o.val / 128, by omega⟩ ⟨d.val % 128 / 32, by omega⟩ (ix2 (0 : Fin 1) (⟨o.val % 128, by omega⟩ : Fin 128))) d.val := by
  unfold wmat
  refine (concatenate_ofFn_apply (s₁ := S128x256) (t := S1024x256) 0 (N := 8)
    (fun n => wchunk (F := Ideal) (V n) (s n))
      concatenates_S128x256_S128x256_S128x256_S128x256_S128x256_S128x256_S128x256_S128x256_S1024x256_d0 rfl 128 rfl (ix2 d o)
      ⟨d.val / 128, by omega⟩ rfl (ix2 (⟨d.val % 128, Nat.mod_lt _ (by decide)⟩ : Fin 128) o) rfl ?_).trans ?_
  · intro b hb
    match b with
    | ⟨0, _⟩ => exact absurd rfl hb
    | ⟨1, _⟩ => rfl
  · rw [wchunk_apply]
    exact congrArg _ (sval_congr _ (by show d.val % 128 % 2 = d.val % 2; omega))

section Loads

variable (arg4 : Memref sig .tc .vmem S1x1024x5120 .fp8e4m3) (arg7 : Memref sig .tc .vmem S64x5120 .bf16) (arg8 : Memref sig .tc .vmem S160x1024 .i32)
  (t : Fin k0_t2_loop.trips) (X4 : BufTy.Contents (Elt Ideal) arg4.view.ty) (X7 : BufTy.Contents (Elt Ideal) arg7.view.ty)
  (X8 : BufTy.Contents (Elt Ideal) arg8.view.ty) (k : Fin k0_t3_loop.trips)

/-- The depth loop has five trips. -/
theorem trips3 : k0_t3_loop.trips = 5 := by decide +kernel
/-- The column loop has four trips. -/
theorem trips2 : k0_t2_loop.trips = 4 := by decide +kernel
/-- The quantiser's loop has twenty trips. -/
theorem trips1 : k0_t1_loop.trips = 20 := by decide +kernel

/-- A loaded weight tile, read at an element. -/
theorem ldW_apply (b : Fin 8) (a : Fin 2) (o d : Fin 128) (O : Fin 1024) (D : Fin 5120)
    (hO : O.val = 256 * t.val + 128 * a.val + o.val) (hD : D.val = 1024 * k.val + 128 * b.val + d.val) :
    ldW (F := Ideal) arg4 t X4 k b a (ix3 (0 : Fin 1) o d) = arg4.view.read (Elt Ideal) X4 (ix3 (0 : Fin 1) O D) := by
  unfold ldW
  show arg4.view.read (Elt Ideal) X4 _ = _
  refine congrArg _ ?_
  have h := k0_off4_eq t k a b
  funext x; apply Fin.ext
  show k0_off4 t k _ _ x + 1 * (ix3 (0 : Fin 1) o d x).val = _
  rw [h]
  match x with
  | ⟨0, _⟩ => rfl
  | ⟨1, _⟩ => show 256 * t.val + 128 * a.val + 1 * o.val = O.val; omega
  | ⟨2, _⟩ => show 1024 * k.val + 128 * b.val + 1 * d.val = D.val; omega

/-- A loaded row of scale words, read at a column. -/
theorem ldS_apply (b : Fin 8) (a : Fin 2) (r : Fin 4) (o : Fin 128) (R : Fin 160) (O : Fin 1024)
    (hR : R.val = 32 * k.val + 4 * b.val + r.val) (hO : O.val = 256 * t.val + 128 * a.val + o.val) :
    ldS (F := Ideal) arg8 t X8 k b a r (ix2 (0 : Fin 1) o) = arg8.view.read (Elt Ideal) X8 (ix2 R O) := by
  unfold ldS
  show arg8.view.read (Elt Ideal) X8 _ = _
  refine congrArg _ ?_
  have h := k0_off5_eq t k b r a
  funext x; apply Fin.ext
  show k0_off5 t k _ _ _ x + 1 * (ix2 (0 : Fin 1) o x).val = _
  rw [h]
  match x with
  | ⟨0, _⟩ => show 32 * k.val + 4 * b.val + r.val + 1 * 0 = R.val; omega
  | ⟨1, _⟩ => show 256 * t.val + 128 * a.val + 1 * o.val = O.val; omega

/-- The loaded activations, read at an element. -/
theorem ldX_apply (m : Fin 64) (d : Fin 1024) (D : Fin 5120) (hD : D.val = 1024 * k.val + d.val) :
    ldX (F := Ideal) arg7 X7 k (ix2 m d) = arg7.view.read (Elt Ideal) X7 (ix2 m D) := by
  unfold ldX
  show arg7.view.read (Elt Ideal) X7 _ = _
  refine congrArg _ ?_
  have h := k0_off6_eq k
  funext x; apply Fin.ext
  show k0_off6 k x + 1 * (ix2 m d x).val = _
  rw [h]
  match x with
  | ⟨0, _⟩ => show 0 + 1 * m.val = m.val; omega
  | ⟨1, _⟩ => show 1024 * k.val + 1 * d.val = D.val; omega

/-- The loaded scaled matrix, read at an element. -/
theorem wmat_ld (d : Fin 1024) (o : Fin 256) (D : Fin 5120) (O : Fin 1024) (hD : D.val = 1024 * k.val + d.val) (hO : O.val = 256 * t.val + o.val) :
    wmat (F := Ideal) (ldW arg4 t X4 k) (ldS arg8 t X8 k) (ix2 d o)
      = arg4.view.read (Elt Ideal) X4 (ix3 (0 : Fin 1) O D)
        * sval (arg8.view.read (Elt Ideal) X8 (ix2 (⟨D.val / 32, by omega⟩ : Fin 160) O)) D.val := by
  rw [wmat_apply, ldW_apply arg4 t X4 k _ _ _ _ O D (by show O.val = _ + 128 * (o.val / 128) + o.val % 128; omega)
      (by show D.val = _ + 128 * (d.val / 128) + d.val % 128; omega),
    ldS_apply arg8 t X8 k _ _ _ _ (⟨D.val / 32, by omega⟩ : Fin 160) O
      (by show D.val / 32 = _ + 4 * (d.val / 128) + d.val % 128 / 32; omega) (by show O.val = _ + 128 * (o.val / 128) + o.val % 128; omega)]
  exact congrArg _ (sval_congr _ (by omega))

end Loads
variable (c : Dev nD) (i : grid0.Coords) (arg2 : Memref sig .tc .smem S12 .i32) (harg2 : arg2.IsWhole) (arg3 : Memref sig .tc .vmem S1x64x5120 .bf16) (harg3 : arg3.IsWhole) (arg4 : Memref sig .tc .vmem S1x1024x5120 .fp8e4m3) (harg4 : arg4.IsWhole) (arg5 : Memref sig .tc .vmem S1x160x1024 .i8) (harg5 : arg5.IsWhole) (arg6 : Memref sig .tc .vmem S1x64x1024 .bf16) (harg6 : arg6.IsWhole) (arg7 : Memref sig .tc .vmem S64x5120 .bf16) (harg7 : arg7.IsWhole) (arg8 : Memref sig .tc .vmem S160x1024 .i32) (harg8 : arg8.IsWhole)
  (t2 : Fin k0_t2_loop.trips) (v : BitVec 32) (X4 : BufTy.Contents (Elt Ideal) arg4.view.ty) (X7 : BufTy.Contents (Elt Ideal) arg7.view.ty)
  (X8 : BufTy.Contents (Elt Ideal) arg8.view.ty)

/-- The product of an activation and a scaled weight, at a column of the contraction. -/
def term (m : Fin 64) (O : Fin 1024) (D : Fin 5120) : EReal :=
  arg7.view.read (Elt Ideal) X7 (ix2 m D) * (arg4.view.read (Elt Ideal) X4 (ix3 (0 : Fin 1) O D)
        * sval (arg8.view.read (Elt Ideal) X8 (ix2 (⟨D.val / 32, by omega⟩ : Fin 160) O)) D.val)

/-- A trip adds the terms of its columns. -/
theorem trip3_apply (k : Fin k0_t3_loop.trips) (acc : FVec Ideal S64x256 .f32) (m : Fin 64) (o : Fin 256) (O : Fin 1024) (hO : O.val = 256 * t2.val + o.val) :
    (trip_k0_t3 (F := Ideal) 𝒱₀ c none i arg2 harg2 arg3 harg3 arg4 harg4 arg5 harg5 arg6 harg6 arg7 harg7 arg8 harg8 t2 v X4 X7 X8 k).1 acc (ix2 m o)
    = acc (ix2 m o) + ∑ d : Fin 1024, term arg4 arg7 arg8 X4 X7 X8 m O ⟨1024 * k.val + d.val, by have := k.isLt; have := trips3; omega⟩ := by
  rw [trip3_eq]
  show acc (ix2 m o) + FloatOps.matmul (DotDims.plain 64 1024 256) none _ _ _ (ix2 m o) = _
  rw [Ideal.matmul_plain_apply]
  show acc (ix2 m o) + (Ideal.ofBits .f32 0#32 + _) = _
  rw [Ideal.ofBits_zero_f32, zero_add]
  refine congrArg (acc (ix2 m o) + ·) (Finset.sum_congr rfl fun d _ => ?_)
  rw [ldX_apply arg7 X7 k m d ⟨1024 * k.val + d.val, by have := k.isLt; have := trips3; omega⟩ rfl, wmat_ld arg4 arg8 t2 X4 X8 k d o ⟨1024 * k.val + d.val, by have := k.isLt; have := trips3; omega⟩ O rfl hO]
  rfl

/-- After `n` trips the accumulator holds the terms of the first `1024 n` columns. -/
theorem st3_apply (m : Fin 64) (o : Fin 256) (O : Fin 1024) (hO : O.val = 256 * t2.val + o.val) : ∀ n : ℕ, (hn : n ≤ 5) →
    st_k0_t3 (F := Ideal) 𝒱₀ c none i arg2 harg2 arg3 harg3 arg4 harg4 arg5 harg5 arg6 harg6 arg7 harg7 arg8 harg8 t2 v X4 X7 X8 k0_pay6 n (ix2 m o)
    = ∑ d : Fin (1024 * n), term arg4 arg7 arg8 X4 X7 X8 m O ⟨d.val, by omega⟩
  | 0, _ => by
    show Ideal.ofBits .f32 0#32 = _
    rw [Ideal.ofBits_zero_f32]; rfl
  | n + 1, hn => by
    have hk : n < k0_t3_loop.trips := by rw [trips3]; omega
    show st_k0_t3Step (F := Ideal) 𝒱₀ c none i arg2 harg2 arg3 harg3 arg4 harg4 arg5 harg5 arg6 harg6 arg7 harg7 arg8 harg8 t2 v X4 X7 X8 _ n _ (ix2 m o) = _
    unfold st_k0_t3Step
    rw [dif_pos hk]
    show (trip_k0_t3 (F := Ideal) 𝒱₀ c none i arg2 harg2 arg3 harg3 arg4 harg4 arg5 harg5 arg6 harg6 arg7 harg7 arg8 harg8 t2 v X4 X7 X8 ⟨n, hk⟩).1 _ (ix2 m o) = _
    rw [trip3_apply c i arg2 harg2 arg3 harg3 arg4 harg4 arg5 harg5 arg6 harg6 arg7 harg7 arg8 harg8 t2 v X4 X7 X8 ⟨n, hk⟩ _ m o O hO,
      st3_apply m o O hO n (by omega)]
    exact (Fin.sum_univ_add (a := 1024 * n) (b := 1024) fun d : Fin (1024 * n + 1024) => term arg4 arg7 arg8 X4 X7 X8 m O ⟨d.val, by omega⟩).symm

/-- The loop's value at an element: the sum over all columns. -/
theorem loop3_apply (m : Fin 64) (o : Fin 256) (O : Fin 1024) (hO : O.val = 256 * t2.val + o.val) :
    st_k0_t3 (F := Ideal) 𝒱₀ c none i arg2 harg2 arg3 harg3 arg4 harg4 arg5 harg5 arg6 harg6 arg7 harg7 arg8 harg8 t2 v X4 X7 X8 k0_pay6 k0_t3_loop.trips (ix2 m o)
    = ∑ D : Fin 5120, term arg4 arg7 arg8 X4 X7 X8 m O D := by
  rw [trips3]
  exact st3_apply c i arg2 harg2 arg3 harg3 arg4 harg4 arg5 harg5 arg6 harg6 arg7 harg7 arg8 harg8 t2 v X4 X7 X8 m o O hO 5 (by omega)

end Cert.Proof.KernelIdeal

end

end
-- ==== Proof.IdealFill.lean ====
/- What `KernelIdeal`'s body leaves in its buffers, read at an element over the extended reals: the quantised activations, the
   table of scale words, and the output block. -/
module

public import proofs.«01_k».proof.Proof.IdealTile
public import Idealize.ShloMosaic.Lib.Pipeline.ReadBack

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx
open Cert.Proof.Quant

/-- A list of stores, each a block of `G`, leaves `G` wherever one of them covers. -/
theorem read_of_pieces {sig : RefSig} {κ : Kind} {sp : Space} {s : Shape} {e : EltTy} (v : View sig κ sp s e)
    (f : v.ty.Contents (Elt Ideal)) (G : s.Idx → Elt Ideal e) (L : List (View.Piece (Elt Ideal) s e))
    (h : ∀ p ∈ L, ∀ x : p.1.shape.Idx, p.2 x = G (p.1.emb x)) (y : s.Idx) (hc : ∃ p ∈ L, y ∈ p.1.set) :
    v.read (Elt Ideal) (v.writes (Elt Ideal) f L) y = G y := by
  rw [View.read_writes_apply_eq_canon v f y L hc]
  have := View.canon_append_of_pieces (Val := Elt Ideal) G [] L h y hc
  rwa [List.append_nil] at this

/-! ## The scale words -/

/-- The word that a scale byte becomes. -/
def word8 (b : BitVec 8) : BitVec 32 := IntOp.ori (IntOp.shli .vector (b.setWidth 32) 7#32) (IntOp.shli .vector (b.setWidth 32) 23#32)

/-- The table's word of a scale byte holds the byte's exponent field in both halves. -/
theorem word8_halves : ∀ n : Fin 256, (word8 (BitVec.ofNat 8 n.val)).extractLsb' 0 16 = BitVec.ofNat 16 n.val <<< 7
    ∧ (word8 (BitVec.ofNat 8 n.val)).extractLsb' 16 16 = BitVec.ofNat 16 n.val <<< 7 := by decide +kernel

/-- Each half of it is the power of two that the byte stands for. -/
theorem sval_word8 (b : BitVec 8) (h1 : 1 ≤ b.toNat) (h2 : b.toNat ≤ 254) (r : ℕ) : sval (word8 b) r = p2 ((b.toNat : ℤ) - 127) := by
  have hb := word8_halves ⟨b.toNat, b.isLt⟩
  rw [show BitVec.ofNat 8 b.toNat = b from by simp] at hb
  have e : BitVec.setWidth 16 b = BitVec.ofNat 16 b.toNat := by
    apply BitVec.eq_of_toNat_eq; simp
  unfold sval
  rcases Nat.mod_two_eq_zero_or_one r with h | h
  · rw [h, show 16 * 0 = 0 from rfl, hb.1]
    exact ofBits_pow16 b.toNat h1 h2
  · rw [h, show 16 * 1 = 16 from rfl, hb.2]
    exact ofBits_pow16 b.toNat h1 h2

/-- The table read at an element. -/
theorem pay5_apply (v : Vec Ideal S1x160x1024 .i8) (r : Fin 160) (o : Fin 1024) :
    k0_pay5 (F := Ideal) v (ix2 r o) = word8 (v (ix3 (0 : Fin 1) r o)) := by
  unfold k0_pay5
  rw [shapeCast_apply _ shapeCasts_S160x1024_S160x1024 (ix2 r o) (ix2 r o) rfl]
  show IntOp.ori (IntOp.shli .vector ((shapeCast S160x1024 v shapeCasts_S1x160x1024_S160x1024 (ix2 r o)).setWidth 32) 7#32)
    (IntOp.shli .vector ((shapeCast S160x1024 v shapeCasts_S1x160x1024_S160x1024 (ix2 r o)).setWidth 32) 23#32) = _
  rw [shapeCast_1ab_ab_apply]
  rfl

section Buf
variable (c : Dev nD) (i : grid0.Coords) (arg2 : Memref sig .tc .smem S12 .i32) (harg2 : arg2.IsWhole) (arg3 : Memref sig .tc .vmem S1x64x5120 .bf16) (harg3 : arg3.IsWhole) (arg4 : Memref sig .tc .vmem S1x1024x5120 .fp8e4m3) (harg4 : arg4.IsWhole) (arg5 : Memref sig .tc .vmem S1x160x1024 .i8) (harg5 : arg5.IsWhole) (arg6 : Memref sig .tc .vmem S1x64x1024 .bf16) (harg6 : arg6.IsWhole) (arg7 : Memref sig .tc .vmem S64x5120 .bf16) (harg7 : arg7.IsWhole) (arg8 : Memref sig .tc .vmem S160x1024 .i32) (harg8 : arg8.IsWhole)

/-- The table stored from the scale bytes, read at an element: the word of its byte. -/
theorem table_read (f5 : BufTy.Contents (Elt Ideal) arg5.view.ty) (G8 : BufTy.Contents (Elt Ideal) arg8.view.ty) (r : Fin 160) (o : Fin 1024) :
    arg8.view.read (Elt Ideal) (arg8.view.writes (Elt Ideal) G8
        [⟨Rect.unit (s := S160x1024) ![0, 0] S160x1024.size inb_S160x1024_S160x1024_0_0,
          k0_pay5 (View.readAt (Elt Ideal) arg5.view (Rect.unit (s := S1x160x1024) ![0, 0, 0] S1x160x1024.size inb_S1x160x1024_S1x160x1024_0_0_0).toLoadRect f5)⟩]) (ix2 r o)
    = word8 (arg5.view.read (Elt Ideal) f5 (ix3 (0 : Fin 1) r o)) := by
  rw [View.readAt_full]
  refine (read_of_pieces arg8.view G8 (k0_pay5 (F := Ideal) (arg5.view.read (Elt Ideal) f5)) _ ?_ (ix2 r o) ?_).trans (pay5_apply _ r o)
  · intro p hp x
    rw [List.mem_singleton] at hp
    subst hp
    refine congrArg (k0_pay5 (F := Ideal) (arg5.view.read (Elt Ideal) f5)) ?_
    funext a; apply Fin.ext
    match a with
    | ⟨0, _⟩ => show (x 0).val = 0 + 1 * (x 0).val; omega
    | ⟨1, _⟩ => show (x 1).val = 0 + 1 * (x 1).val; omega
  · have hm : ix2 r o ∈ (Rect.unit (s := S160x1024) ![0, 0] S160x1024.size inb_S160x1024_S160x1024_0_0).set := by
      rw [Rect.mem_set_unit]
      intro a
      match a with
      | ⟨0, _⟩ => exact ⟨Nat.zero_le _, by have := r.isLt; show r.val < 0 + 160; omega⟩
      | ⟨1, _⟩ => exact ⟨Nat.zero_le _, by have := o.isLt; show o.val < 0 + 1024; omega⟩
    exact ⟨_, List.mem_singleton_self _, hm⟩

/-! ## The quantised activations -/

/-- The columns a trip loads, read at an element. -/
theorem v34_apply (h3 : k0_cond3 i = 1#1) (X3 : BufTy.Contents (Elt Ideal) arg3.view.ty) (k : Fin k0_t1_loop.trips) (r : Fin 64) (d : Fin 128)
    (D : Fin 5120) (hD : D.val = 256 * k.val + d.val) :
    trip1.sl.v34 (F := Ideal) i arg3 h3 X3 k (ix2 r d) = arg3.view.read (Elt Ideal) X3 (ix3 (0 : Fin 1) r D) := by
  have e : (Rect.unit (s := S64x5120) (k0_off2 k) S64x128.size (k0_off2_inb i k h3)).emb (ix2 r d) = ix2 r D := by
    funext x; apply Fin.ext
    show k0_off2 k x + 1 * (ix2 r d x).val = _
    rw [k0_off2_eq]
    match x with
    | ⟨0, _⟩ => show 0 + 1 * r.val = r.val; omega
    | ⟨1, _⟩ => show 256 * k.val + 1 * d.val = D.val; omega
  refine (congrArg (((arg3.slice (Rect.unit (s := S1x64x5120) ![0, 0, 0] S1x64x5120.size inb_S1x64x5120_S1x64x5120_0_0_0) (fun _ => rfl)).squeeze S64x5120 squeezes_S1x64x5120_S64x5120).view.read (Elt Ideal) X3) e).trans ?_
  rw [Memref.read_squeeze_slice arg3 _ _ _ (by decide), shapeCast_1ab_ab_apply, View.readAt_full]

/-- The second column block that a trip loads, at an element. -/
theorem v38_apply (h3 : k0_cond3 i = 1#1) (X3 : BufTy.Contents (Elt Ideal) arg3.view.ty) (k : Fin k0_t1_loop.trips) (r : Fin 64) (d : Fin 128)
    (D : Fin 5120) (hD : D.val = 256 * k.val + 128 + d.val) :
    trip1.sl.v38 (F := Ideal) i arg3 h3 X3 k (ix2 r d) = arg3.view.read (Elt Ideal) X3 (ix3 (0 : Fin 1) r D) := by
  have e : (Rect.unit (s := S64x5120) (k0_off3 k) S64x128.size (k0_off3_inb i k h3)).emb (ix2 r d) = ix2 r D := by
    funext x; apply Fin.ext
    show k0_off3 k x + 1 * (ix2 r d x).val = _
    rw [k0_off3_eq]
    match x with
    | ⟨0, _⟩ => show 0 + 1 * r.val = r.val; omega
    | ⟨1, _⟩ => show 256 * k.val + 128 + 1 * d.val = D.val; omega
  refine (congrArg (((arg3.slice (Rect.unit (s := S1x64x5120) ![0, 0, 0] S1x64x5120.size inb_S1x64x5120_S1x64x5120_0_0_0) (fun _ => rfl)).squeeze S64x5120 squeezes_S1x64x5120_S64x5120).view.read (Elt Ideal) X3) e).trans ?_
  rw [Memref.read_squeeze_slice arg3 _ _ _ (by decide), shapeCast_1ab_ab_apply, View.readAt_full]

/-- The transposed tile a trip quantises, read at an element: row `q` below 64 is row `q` of the first columns, the others are the rows of
    the second. -/
theorem tile1_apply (h3 : k0_cond3 i = 1#1) (X3 : BufTy.Contents (Elt Ideal) arg3.view.ty) (k : Fin k0_t1_loop.trips) (q d : Fin 128)
    (r : Fin 64) (D : Fin 5120) (hr : r.val = q.val % 64) (hD : D.val = 256 * k.val + 128 * (q.val / 64) + d.val) :
    trip1.sl.r (F := Ideal) i arg3 h3 X3 k (ix2 d q) = arg3.view.read (Elt Ideal) X3 (ix3 (0 : Fin 1) r D) := by
  show transpose S128x128 [1, 0] (concatenate S128x128 0 [⟨S64x128, trip1.sl.v34 (F := Ideal) i arg3 h3 X3 k⟩, ⟨S64x128, trip1.sl.v38 (F := Ideal) i arg3 h3 X3 k⟩]
    concatenates_S64x128_S64x128_S128x128_d0) transposes_S128x128_p1_0_S128x128 (ix2 d q) = _
  rw [transpose_ix2_apply]
  refine (concatenate_ofFn_apply (s₁ := S64x128) (t := S128x128) 0 (N := 2)
    (fun n => ![trip1.sl.v34 (F := Ideal) i arg3 h3 X3 k, trip1.sl.v38 (F := Ideal) i arg3 h3 X3 k] n)
      concatenates_S64x128_S64x128_S128x128_d0 rfl 64 rfl (ix2 q d)
      ⟨q.val / 64, by omega⟩ rfl (ix2 r d) hr ?_).trans ?_
  · intro b hb
    match b with
    | ⟨0, _⟩ => exact absurd rfl hb
    | ⟨1, _⟩ => rfl
  · by_cases hq : q.val < 64
    · rw [show (⟨q.val / 64, by omega⟩ : Fin 2) = 0 from Fin.ext (by show q.val / 64 = 0; omega)]
      exact v34_apply i arg3 h3 X3 k r d D (by omega)
    · rw [show (⟨q.val / 64, by omega⟩ : Fin 2) = 1 from Fin.ext (by show q.val / 64 = 1; omega)]
      exact v38_apply i arg3 h3 X3 k r d D (by omega)

/-- The two pieces a trip stores. -/
theorem trip1_list (h3 : k0_cond3 i = 1#1) (X3 : BufTy.Contents (Elt Ideal) arg3.view.ty) (k : Fin k0_t1_loop.trips) :
    (trip1 (F := Ideal) c i arg2 harg2 arg3 harg3 arg4 harg4 arg5 harg5 arg6 harg6 arg7 harg7 arg8 harg8 h3 X3 k).1
    = [⟨Rect.unit (s := S64x5120) (k0_off3 k) S64x128.size (k0_off3_inb i k h3),
        shapeCast S64x128 (extractStridedSlice S64x128 ![64, 0] (vjoin (trip1.sl.r (F := Ideal) i arg3 h3 X3 k)) slices_S128x128_o64_0_S64x128) shapeCasts_S64x128_S64x128⟩,
       ⟨Rect.unit (s := S64x5120) (k0_off2 k) S64x128.size (k0_off2_inb i k h3),
        shapeCast S64x128 (extractStridedSlice S64x128 ![0, 0] (vjoin (trip1.sl.r (F := Ideal) i arg3 h3 X3 k)) slices_S128x128_o0_0_S64x128) shapeCasts_S64x128_S64x128⟩] := by
  rw [← trip1_join]
  unfold trip1
  rfl

/-- A trip stores its lower half at the second column block. -/
theorem trip1_mem3 (h3 : k0_cond3 i = 1#1) (X3 : BufTy.Contents (Elt Ideal) arg3.view.ty) (k : Fin k0_t1_loop.trips) :
    (⟨Rect.unit (s := S64x5120) (k0_off3 k) S64x128.size (k0_off3_inb i k h3),
        shapeCast S64x128 (extractStridedSlice S64x128 ![64, 0] (vjoin (trip1.sl.r (F := Ideal) i arg3 h3 X3 k)) slices_S128x128_o64_0_S64x128) shapeCasts_S64x128_S64x128⟩ : View.Piece (Elt Ideal) S64x5120 .bf16)
    ∈ (trip1 (F := Ideal) c i arg2 harg2 arg3 harg3 arg4 harg4 arg5 harg5 arg6 harg6 arg7 harg7 arg8 harg8 h3 X3 k).1 := by
  rw [trip1_list]
  exact List.mem_cons_self

/-- A trip stores its upper half at the first column block. -/
theorem trip1_mem2 (h3 : k0_cond3 i = 1#1) (X3 : BufTy.Contents (Elt Ideal) arg3.view.ty) (k : Fin k0_t1_loop.trips) :
    (⟨Rect.unit (s := S64x5120) (k0_off2 k) S64x128.size (k0_off2_inb i k h3),
        shapeCast S64x128 (extractStridedSlice S64x128 ![0, 0] (vjoin (trip1.sl.r (F := Ideal) i arg3 h3 X3 k)) slices_S128x128_o0_0_S64x128) shapeCasts_S64x128_S64x128⟩ : View.Piece (Elt Ideal) S64x5120 .bf16)
    ∈ (trip1 (F := Ideal) c i arg2 harg2 arg3 harg3 arg4 harg4 arg5 harg5 arg6 harg6 arg7 harg7 arg8 harg8 h3 X3 k).1 := by
  rw [trip1_list]
  exact List.mem_cons_of_mem _ (List.mem_singleton_self _)

/-- What the scratch is to hold: the activations themselves. -/
def xOf (X3 : BufTy.Contents (Elt Ideal) arg3.view.ty) : S64x5120.Idx → Elt Ideal .bf16 :=
  fun y => arg3.view.read (Elt Ideal) X3 (ix3 (0 : Fin 1) (y 0 : Fin 64) (y 1 : Fin 5120))

/-- What a trip stores is the activations themselves, where they are in range. -/
theorem trip1_pieces (h3 : k0_cond3 i = 1#1) (X3 : BufTy.Contents (Elt Ideal) arg3.view.ty) (hX : ∀ j, Small (arg3.view.read (Elt Ideal) X3 j))
    (k : Fin k0_t1_loop.trips) :
    ∀ p ∈ (trip1 (F := Ideal) c i arg2 harg2 arg3 harg3 arg4 harg4 arg5 harg5 arg6 harg6 arg7 harg7 arg8 harg8 h3 X3 k).1,
      ∀ x : p.1.shape.Idx, p.2 x = xOf arg3 X3 (p.1.emb x) := by
  have hk : k.val < 20 := by have := k.isLt; have := trips1; omega
  have hT : ∀ j, Small (trip1.sl.r (F := Ideal) i arg3 h3 X3 k j) := by
    intro j
    obtain ⟨d, q, rfl⟩ : ∃ (d : Fin 128) (q : Fin 128), j = ix2 d q := ⟨j 0, j 1, eq_ix2 j⟩
    rw [tile1_apply i arg3 h3 X3 k q d ⟨q.val % 64, by omega⟩ ⟨256 * k.val + 128 * (q.val / 64) + d.val, by omega⟩ rfl rfl]
    exact hX _
  intro p hp
  rw [trip1_list] at hp
  rcases List.mem_cons.mp hp with rfl | hp
  · intro x
    obtain ⟨r, d, rfl⟩ : ∃ (r : Fin 64) (d : Fin 128), x = ix2 r d := ⟨x 0, x 1, eq_ix2 (n0 := 64) (n1 := 128) x⟩
    have key : shapeCast S64x128 (extractStridedSlice S64x128 ![64, 0] (vjoin (trip1.sl.r (F := Ideal) i arg3 h3 X3 k)) slices_S128x128_o64_0_S64x128) shapeCasts_S64x128_S64x128 (ix2 r d)
        = arg3.view.read (Elt Ideal) X3 (ix3 (0 : Fin 1) r (⟨256 * k.val + 128 + d.val, by omega⟩ : Fin 5120)) := by
      rw [shapeCast_apply _ shapeCasts_S64x128_S64x128 (ix2 r d) (ix2 r d) rfl,
      slice2_axis0_apply 64 _ _ r d ⟨64 + r.val, by omega⟩ rfl, vjoin_id _ hT,
      tile1_apply i arg3 h3 X3 k ⟨64 + r.val, by omega⟩ d r ⟨256 * k.val + 128 + d.val, by omega⟩ (by show r.val = (64 + r.val) % 64; omega)
        (by show 256 * k.val + 128 + d.val = 256 * k.val + 128 * ((64 + r.val) / 64) + d.val; omega)]
    refine key.trans ?_
    unfold xOf
    refine congrArg _ ?_
    have e : ∀ a, ((Rect.unit (s := S64x5120) (k0_off3 k) S64x128.size (k0_off3_inb i k h3)).emb (ix2 r d) a).val = ![0, 256 * k.val + 128] a + 1 * (ix2 r d a).val := by
      intro a; rw [← k0_off3_eq]; rfl
    funext a; apply Fin.ext
    match a with
    | ⟨0, _⟩ => rfl
    | ⟨1, _⟩ => exact (show r.val = 0 + 1 * r.val by omega).trans (e 0).symm
    | ⟨2, _⟩ => exact (show 256 * k.val + 128 + d.val = 256 * k.val + 128 + 1 * d.val by omega).trans (e 1).symm
  · rw [List.mem_singleton] at hp
    subst hp
    intro x
    obtain ⟨r, d, rfl⟩ : ∃ (r : Fin 64) (d : Fin 128), x = ix2 r d := ⟨x 0, x 1, eq_ix2 (n0 := 64) (n1 := 128) x⟩
    have key : shapeCast S64x128 (extractStridedSlice S64x128 ![0, 0] (vjoin (trip1.sl.r (F := Ideal) i arg3 h3 X3 k)) slices_S128x128_o0_0_S64x128) shapeCasts_S64x128_S64x128 (ix2 r d)
        = arg3.view.read (Elt Ideal) X3 (ix3 (0 : Fin 1) r (⟨256 * k.val + d.val, by omega⟩ : Fin 5120)) := by
      rw [shapeCast_apply _ shapeCasts_S64x128_S64x128 (ix2 r d) (ix2 r d) rfl,
      slice2_axis0_apply 0 _ _ r d ⟨r.val, by omega⟩ (by show r.val = 0 + r.val; omega), vjoin_id _ hT,
      tile1_apply i arg3 h3 X3 k ⟨r.val, by omega⟩ d r ⟨256 * k.val + d.val, by omega⟩ (by show r.val = r.val % 64; omega)
        (by show 256 * k.val + d.val = 256 * k.val + 128 * (r.val / 64) + d.val; omega)]
    refine key.trans ?_
    unfold xOf
    refine congrArg _ ?_
    have e : ∀ a, ((Rect.unit (s := S64x5120) (k0_off2 k) S64x128.size (k0_off2_inb i k h3)).emb (ix2 r d) a).val = ![0, 256 * k.val] a + 1 * (ix2 r d a).val := by
      intro a; rw [← k0_off2_eq]; rfl
    funext a; apply Fin.ext
    match a with
    | ⟨0, _⟩ => rfl
    | ⟨1, _⟩ => exact (show r.val = 0 + 1 * r.val by omega).trans (e 0).symm
    | ⟨2, _⟩ => exact (show 256 * k.val + d.val = 256 * k.val + 1 * d.val by omega).trans (e 1).symm

/-- What the first trips store is the activations themselves. -/
theorem pieces1_pieces (h3 : k0_cond3 i = 1#1) (X3 : BufTy.Contents (Elt Ideal) arg3.view.ty) (hX : ∀ j, Small (arg3.view.read (Elt Ideal) X3 j)) : ∀ n : ℕ,
    ∀ p ∈ pieces1 (F := Ideal) c i arg2 harg2 arg3 harg3 arg4 harg4 arg5 harg5 arg6 harg6 arg7 harg7 arg8 harg8 h3 X3 n,
      ∀ x : p.1.shape.Idx, p.2 x = xOf arg3 X3 (p.1.emb x)
  | 0, p, hp => absurd hp List.not_mem_nil
  | n + 1, p, hp => by
    by_cases h : n < k0_t1_loop.trips
    · rw [pieces1_succ (F := Ideal) c i arg2 harg2 arg3 harg3 arg4 harg4 arg5 harg5 arg6 harg6 arg7 harg7 arg8 harg8 h3 X3 ⟨n, h⟩] at hp
      rcases List.mem_append.mp hp with hp | hp
      · exact trip1_pieces c i arg2 harg2 arg3 harg3 arg4 harg4 arg5 harg5 arg6 harg6 arg7 harg7 arg8 harg8 h3 X3 hX _ p hp
      · exact pieces1_pieces h3 X3 hX n p hp
    · rw [pieces1, dif_neg h] at hp
      exact pieces1_pieces h3 X3 hX n p hp

/-- The stores of a trip are among those of the trips up to it. -/
theorem pieces1_sub (h3 : k0_cond3 i = 1#1) (X3 : BufTy.Contents (Elt Ideal) arg3.view.ty) (k : Fin k0_t1_loop.trips) : ∀ n : ℕ, k.val < n → n ≤ k0_t1_loop.trips →
    ∀ p ∈ (trip1 (F := Ideal) c i arg2 harg2 arg3 harg3 arg4 harg4 arg5 harg5 arg6 harg6 arg7 harg7 arg8 harg8 h3 X3 k).1,
      p ∈ pieces1 (F := Ideal) c i arg2 harg2 arg3 harg3 arg4 harg4 arg5 harg5 arg6 harg6 arg7 harg7 arg8 harg8 h3 X3 n
  | 0, hk, _, _, _ => absurd hk (Nat.not_lt_zero _)
  | n + 1, hk, hn, p, hp => by
    rw [pieces1_succ (F := Ideal) c i arg2 harg2 arg3 harg3 arg4 harg4 arg5 harg5 arg6 harg6 arg7 harg7 arg8 harg8 h3 X3 ⟨n, hn⟩]
    refine List.mem_append.mpr ?_
    by_cases h : k.val = n
    · left
      have : k = ⟨n, hn⟩ := Fin.ext h
      rw [← this]; exact hp
    · right
      exact pieces1_sub h3 X3 k n (by omega) (by omega) p hp

/-- After the quantising loop the scratch reads as the activations. -/
theorem scratch_read (h3 : k0_cond3 i = 1#1) (X3 : BufTy.Contents (Elt Ideal) arg3.view.ty) (hX : ∀ j, Small (arg3.view.read (Elt Ideal) X3 j))
    (G7 : BufTy.Contents (Elt Ideal) arg7.view.ty) (r : Fin 64) (D : Fin 5120) :
    arg7.view.read (Elt Ideal) (arg7.view.writes (Elt Ideal) G7
      (pieces1 (F := Ideal) c i arg2 harg2 arg3 harg3 arg4 harg4 arg5 harg5 arg6 harg6 arg7 harg7 arg8 harg8 h3 X3 k0_t1_loop.trips)) (ix2 r D)
    = arg3.view.read (Elt Ideal) X3 (ix3 (0 : Fin 1) r D) := by
  refine (read_of_pieces arg7.view G7 (xOf arg3 X3) _ (pieces1_pieces c i arg2 harg2 arg3 harg3 arg4 harg4 arg5 harg5 arg6 harg6 arg7 harg7 arg8 harg8 h3 X3 hX _) (ix2 r D) ?_).trans rfl
  have hk : D.val / 256 < k0_t1_loop.trips := by rw [trips1]; omega
  by_cases h : D.val % 256 < 128
  · have hm : ix2 r D ∈ (Rect.unit (s := S64x5120) (k0_off2 ⟨D.val / 256, hk⟩) S64x128.size (k0_off2_inb i ⟨D.val / 256, hk⟩ h3)).set := by
      rw [Rect.mem_set_unit, k0_off2_eq]
      intro a
      match a with
      | ⟨0, _⟩ => exact ⟨Nat.zero_le _, by have := r.isLt; show r.val < 0 + 64; omega⟩
      | ⟨1, _⟩ => exact ⟨by show 256 * (D.val / 256) ≤ D.val; omega, by show D.val < 256 * (D.val / 256) + 128; omega⟩
    have hp := pieces1_sub c i arg2 harg2 arg3 harg3 arg4 harg4 arg5 harg5 arg6 harg6 arg7 harg7 arg8 harg8 h3 X3 ⟨D.val / 256, hk⟩ _ hk le_rfl _
      (trip1_mem2 c i arg2 harg2 arg3 harg3 arg4 harg4 arg5 harg5 arg6 harg6 arg7 harg7 arg8 harg8 h3 X3 ⟨D.val / 256, hk⟩)
    exact ⟨_, hp, hm⟩
  · have hm : ix2 r D ∈ (Rect.unit (s := S64x5120) (k0_off3 ⟨D.val / 256, hk⟩) S64x128.size (k0_off3_inb i ⟨D.val / 256, hk⟩ h3)).set := by
      rw [Rect.mem_set_unit, k0_off3_eq]
      intro a
      match a with
      | ⟨0, _⟩ => exact ⟨Nat.zero_le _, by have := r.isLt; show r.val < 0 + 64; omega⟩
      | ⟨1, _⟩ => exact ⟨by show 256 * (D.val / 256) + 128 ≤ D.val; omega, by show D.val < 256 * (D.val / 256) + 128 + 128; omega⟩
    have hp := pieces1_sub c i arg2 harg2 arg3 harg3 arg4 harg4 arg5 harg5 arg6 harg6 arg7 harg7 arg8 harg8 h3 X3 ⟨D.val / 256, hk⟩ _ hk le_rfl _
      (trip1_mem3 c i arg2 harg2 arg3 harg3 arg4 harg4 arg5 harg5 arg6 harg6 arg7 harg7 arg8 harg8 h3 X3 ⟨D.val / 256, hk⟩)
    exact ⟨_, hp, hm⟩

/-! ## The output block -/

/-- An output element, given its group's size: a row of the group has its sum, a row past it is zero. -/
def rowSel (size : BitVec 32) (m : ℕ) (s : EReal) : EReal := Scalar.select (IntOp.cmpi .slt (BitVec.ofNat 32 m) size) s 0

/-- What the output block is to hold. -/
def blkOut (v1 : BitVec 32) (X4 : BufTy.Contents (Elt Ideal) arg4.view.ty) (X7 : BufTy.Contents (Elt Ideal) arg7.view.ty)
    (X8 : BufTy.Contents (Elt Ideal) arg8.view.ty) : S1x64x1024.Idx → Elt Ideal .bf16 :=
  fun y => rowSel v1 (y 1).val (∑ D : Fin 5120, term arg4 arg7 arg8 X4 X7 X8 (y 1 : Fin 64) (y 2 : Fin 1024) D)

/-- A column tile at an element: the sum over the depth, where the row lies in the group. -/
theorem tile_apply (v1 : BitVec 32) (X4 : BufTy.Contents (Elt Ideal) arg4.view.ty) (X7 : BufTy.Contents (Elt Ideal) arg7.view.ty)
    (X8 : BufTy.Contents (Elt Ideal) arg8.view.ty) (k : Fin k0_t2_loop.trips) (m : Fin 64) (o : Fin 256) (O : Fin 1024) (hO : O.val = 256 * k.val + o.val) :
    tile (F := Ideal) c i arg2 harg2 arg3 harg3 arg4 harg4 arg5 harg5 arg6 harg6 arg7 harg7 arg8 harg8 v1 X4 X7 X8 k (ix3 (0 : Fin 1) m o)
    = rowSel v1 m.val (∑ D : Fin 5120, term arg4 arg7 arg8 X4 X7 X8 m O D) := by
  unfold tile k0_pay8
  dsimp only
  rw [shapeCast_ab_1ab_apply]
  rw [← loop3_apply c i arg2 harg2 arg3 harg3 arg4 harg4 arg5 harg5 arg6 harg6 arg7 harg7 arg8 harg8 k (Scf.iv 0#32 1#32 k) X4 X7 X8 m o O hO]
  show Scalar.select (IntOp.cmpi .slt (BitVec.ofNat 32 (0 * 64 + m.val)) v1) _ (Ideal.ofBits .f32 0#32) = _
  rw [Ideal.ofBits_zero_f32, Nat.zero_mul, Nat.zero_add]
  rfl

/-- What the first column tiles store is the point's block. -/
theorem tiles_pieces (v1 : BitVec 32) (X4 : BufTy.Contents (Elt Ideal) arg4.view.ty) (X7 : BufTy.Contents (Elt Ideal) arg7.view.ty)
    (X8 : BufTy.Contents (Elt Ideal) arg8.view.ty) : ∀ n : ℕ,
    ∀ p ∈ tiles (F := Ideal) c i arg2 harg2 arg3 harg3 arg4 harg4 arg5 harg5 arg6 harg6 arg7 harg7 arg8 harg8 v1 X4 X7 X8 n,
      ∀ x : p.1.shape.Idx, p.2 x = blkOut arg4 arg7 arg8 v1 X4 X7 X8 (p.1.emb x)
  | 0, p, hp => absurd hp List.not_mem_nil
  | n + 1, p, hp => by
    by_cases h : n < k0_t2_loop.trips
    · rw [tiles_succ (F := Ideal) c i arg2 harg2 arg3 harg3 arg4 harg4 arg5 harg5 arg6 harg6 arg7 harg7 arg8 harg8 v1 X4 X7 X8 ⟨n, h⟩] at hp
      rcases List.mem_cons.mp hp with rfl | hp
      · have hn : n < 4 := by rw [trips2] at h; exact h
        intro x
        obtain ⟨u, m, o, rfl⟩ : ∃ (u : Fin 1) (m : Fin 64) (o : Fin 256), x = ix3 u m o := ⟨x 0, x 1, x 2, eq_ix3 (n0 := 1) (n1 := 64) (n2 := 256) x⟩
        obtain rfl : u = 0 := Subsingleton.elim _ _
        have e : (Rect.unit (s := S1x64x1024) (k0_off7 ⟨n, h⟩) S1x64x256.size (k0_off7_inb ⟨n, h⟩)).emb (ix3 (0 : Fin 1) m o)
            = ix3 (0 : Fin 1) m (⟨256 * n + o.val, by omega⟩ : Fin 1024) := by
          funext a; apply Fin.ext
          show k0_off7 ⟨n, h⟩ a + 1 * (ix3 (0 : Fin 1) m o a).val = _
          rw [k0_off7_eq]
          match a with
          | ⟨0, _⟩ => rfl
          | ⟨1, _⟩ => show 0 + 1 * m.val = m.val; omega
          | ⟨2, _⟩ => show 256 * n + 1 * o.val = 256 * n + o.val; omega
        show tile (F := Ideal) c i arg2 harg2 arg3 harg3 arg4 harg4 arg5 harg5 arg6 harg6 arg7 harg7 arg8 harg8 v1 X4 X7 X8 ⟨n, h⟩ (ix3 (0 : Fin 1) m o)
          = blkOut arg4 arg7 arg8 v1 X4 X7 X8 ((Rect.unit (s := S1x64x1024) (k0_off7 ⟨n, h⟩) S1x64x256.size (k0_off7_inb ⟨n, h⟩)).emb (ix3 (0 : Fin 1) m o))
        rw [e, tile_apply c i arg2 harg2 arg3 harg3 arg4 harg4 arg5 harg5 arg6 harg6 arg7 harg7 arg8 harg8 v1 X4 X7 X8 ⟨n, h⟩ m o ⟨256 * n + o.val, by omega⟩ rfl]
        rfl
      · exact tiles_pieces v1 X4 X7 X8 n p hp
    · rw [tiles, dif_neg h] at hp
      exact tiles_pieces v1 X4 X7 X8 n p hp

/-- The store of a column tile is among those of the tiles up to it. -/
theorem tiles_sub (v1 : BitVec 32) (X4 : BufTy.Contents (Elt Ideal) arg4.view.ty) (X7 : BufTy.Contents (Elt Ideal) arg7.view.ty)
    (X8 : BufTy.Contents (Elt Ideal) arg8.view.ty) (k : Fin k0_t2_loop.trips) : ∀ n : ℕ, k.val < n → n ≤ k0_t2_loop.trips →
    (⟨Rect.unit (s := S1x64x1024) (k0_off7 k) S1x64x256.size (k0_off7_inb k), tile (F := Ideal) c i arg2 harg2 arg3 harg3 arg4 harg4 arg5 harg5 arg6 harg6 arg7 harg7 arg8 harg8 v1 X4 X7 X8 k⟩ : View.Piece (Elt Ideal) S1x64x1024 .bf16)
      ∈ tiles (F := Ideal) c i arg2 harg2 arg3 harg3 arg4 harg4 arg5 harg5 arg6 harg6 arg7 harg7 arg8 harg8 v1 X4 X7 X8 n
  | 0, hk, _ => absurd hk (Nat.not_lt_zero _)
  | n + 1, hk, hn => by
    rw [tiles_succ (F := Ideal) c i arg2 harg2 arg3 harg3 arg4 harg4 arg5 harg5 arg6 harg6 arg7 harg7 arg8 harg8 v1 X4 X7 X8 ⟨n, hn⟩]
    by_cases h : k.val = n
    · have : k = ⟨n, hn⟩ := Fin.ext h
      rw [← this]; exact List.mem_cons_self
    · exact List.mem_cons_of_mem _ (tiles_sub v1 X4 X7 X8 k n (by omega) (by omega))

/-- After the column-tile loop the output block reads as it should. -/
theorem out_read (v1 : BitVec 32) (X4 : BufTy.Contents (Elt Ideal) arg4.view.ty) (X7 : BufTy.Contents (Elt Ideal) arg7.view.ty)
    (X8 : BufTy.Contents (Elt Ideal) arg8.view.ty) (G6 : BufTy.Contents (Elt Ideal) arg6.view.ty) (m : Fin 64) (O : Fin 1024) :
    arg6.view.read (Elt Ideal) (arg6.view.writes (Elt Ideal) G6
      (tiles (F := Ideal) c i arg2 harg2 arg3 harg3 arg4 harg4 arg5 harg5 arg6 harg6 arg7 harg7 arg8 harg8 v1 X4 X7 X8 k0_t2_loop.trips)) (ix3 (0 : Fin 1) m O)
    = rowSel v1 m.val (∑ D : Fin 5120, term arg4 arg7 arg8 X4 X7 X8 m O D) := by
  refine (read_of_pieces arg6.view G6 (blkOut arg4 arg7 arg8 v1 X4 X7 X8) _ (tiles_pieces c i arg2 harg2 arg3 harg3 arg4 harg4 arg5 harg5 arg6 harg6 arg7 harg7 arg8 harg8 v1 X4 X7 X8 _) (ix3 (0 : Fin 1) m O) ?_).trans rfl
  have hk : O.val / 256 < k0_t2_loop.trips := by rw [trips2]; omega
  have hm : ix3 (0 : Fin 1) m O ∈ (Rect.unit (s := S1x64x1024) (k0_off7 ⟨O.val / 256, hk⟩) S1x64x256.size (k0_off7_inb ⟨O.val / 256, hk⟩)).set := by
    rw [Rect.mem_set_unit, k0_off7_eq]
    intro a
    match a with
    | ⟨0, _⟩ => exact ⟨Nat.zero_le _, by show 0 < 0 + 1; omega⟩
    | ⟨1, _⟩ => exact ⟨Nat.zero_le _, by have := m.isLt; show m.val < 0 + 64; omega⟩
    | ⟨2, _⟩ => exact ⟨by show 256 * (O.val / 256) ≤ O.val; omega, by show O.val < 256 * (O.val / 256) + 256; omega⟩
  exact ⟨_, tiles_sub c i arg2 harg2 arg3 harg3 arg4 harg4 arg5 harg5 arg6 harg6 arg7 harg7 arg8 harg8 v1 X4 X7 X8 ⟨O.val / 256, hk⟩ _ hk le_rfl, hm⟩

/-- A block that stores zeros reads as zeros. -/
theorem zero_read (f6 : BufTy.Contents (Elt Ideal) arg6.view.ty) (j : S1x64x1024.Idx) :
    arg6.view.read (Elt Ideal) (arg6.view.writes (Elt Ideal) f6
      [⟨Rect.unit (s := S1x64x1024) ![0, 0, 0] S1x64x1024.size inb_S1x64x1024_S1x64x1024_0_0_0, k0_pay1 (F := Ideal)⟩]) j = (0 : EReal) := by
  refine read_of_pieces arg6.view f6 (fun _ => (0 : EReal)) _ ?_ j ?_
  · intro p hp x
    rw [List.mem_singleton] at hp
    subst hp
    show k0_pay1 (F := Ideal) x = _
    unfold k0_pay1
    show Ideal.ofBits .bf16 0x0000#16 = 0
    simp [Ideal.ofBits, Ideal.ieee]
  · have hm : j ∈ (Rect.unit (s := S1x64x1024) ![0, 0, 0] S1x64x1024.size inb_S1x64x1024_S1x64x1024_0_0_0).set := by
      rw [Rect.mem_set_unit]
      intro a
      match a with
      | ⟨0, _⟩ => exact ⟨Nat.zero_le _, by have : (j 0).val < 1 := (j 0).isLt; show (j 0).val < 0 + 1; omega⟩
      | ⟨1, _⟩ => exact ⟨Nat.zero_le _, by have : (j 1).val < 64 := (j 1).isLt; show (j 1).val < 0 + 64; omega⟩
      | ⟨2, _⟩ => exact ⟨Nat.zero_le _, by have : (j 2).val < 1024 := (j 2).isLt; show (j 2).val < 0 + 1024; omega⟩
    exact ⟨_, List.mem_singleton_self _, hm⟩

end Buf

end Cert.Proof.KernelIdeal

end

end
-- ==== Proof.IdealLeft.lean ====
/- What `KernelIdeal`'s body leaves, in terms of what its windows hold: the output block's elements as sums, and the scratch's as
   the activations. -/
module

public import proofs.«01_k».proof.Proof.IdealFill

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx
open Cert.Proof.Quant

/-- A condition word, read off the comparison it widens. -/
theorem cond_word (b : BitVec 1) : Scalar.cmpi .ne (Scalar.extui b : BitVec 32) 0#32 = b := by
  revert b; decide

/-- The first branch is taken at size zero. -/
theorem cond1_iff (w : BitVec 32) : k0_cond1 w = 1#1 ↔ w = 0#32 := by
  unfold k0_cond1
  dsimp only
  rw [cond_word]
  show BitVec.ofBool (w == 0#32) = 1#1 ↔ _
  by_cases h : w = 0#32
  · subst h; decide
  · have : (w == 0#32) = false := by simpa using h
    rw [this]; constructor
    · intro h'; exact absurd h' (by decide)
    · intro h'; exact absurd h' h

/-- The second branch is taken at a positive size. -/
theorem cond2_iff (w : BitVec 32) : k0_cond2 w = 1#1 ↔ Scalar.cmpi .sgt w 0#32 = 1#1 := by
  unfold k0_cond2
  dsimp only
  rw [cond_word]

/-- A size that is not negative is zero or positive. -/
theorem size_cases (w : BitVec 32) (h : 0 ≤ w.toInt) : k0_cond1 w = 1#1 ∨ k0_cond2 w = 1#1 := by
  by_cases h0 : w = 0#32
  · left; exact (cond1_iff w).mpr h0
  · right
    rw [cond2_iff]
    show BitVec.ofBool ((0#32).slt w) = 1#1
    have : (0#32).slt w = true := by
      rw [BitVec.slt_iff_toInt_lt]
      have hne : w.toInt ≠ 0 := fun e => h0 (BitVec.eq_of_toInt_eq (by rw [e]; rfl))
      show (0 : ℤ) < _
      omega
    rw [this]; rfl

/-- The two branches exclude each other. -/
theorem cond12 (w : BitVec 32) (h : k0_cond2 w = 1#1) : ¬ k0_cond1 w = 1#1 := by
  rw [cond1_iff]; rintro rfl; exact absurd h (by decide)

/-- No row lies in a group of size zero. -/
theorem rowSel_zero (n : Fin 64) (s : EReal) : rowSel 0#32 n.val s = 0 := by
  unfold rowSel
  have h : ∀ n : Fin 64, IntOp.cmpi .slt (BitVec.ofNat 32 n.val) 0#32 = 0#1 := by decide +kernel
  rw [h, select_zero]

/-- An output element: the products of an activation row with a scaled weight row, summed, where the row is in the group. -/
def outEl (size : BitVec 32) (n : ℕ) (x w : Fin 5120 → EReal) (b : Fin 160 → BitVec 8) : EReal :=
  rowSel size n (∑ D : Fin 5120, x D * (w D * p2 (((b ⟨D.val / 32, by omega⟩).toNat : ℤ) - 127)))

section Body
variable (c : Dev nD) (i : grid0.Coords) (arg2 : Memref sig .tc .smem S12 .i32) (harg2 : arg2.IsWhole) (arg3 : Memref sig .tc .vmem S1x64x5120 .bf16) (harg3 : arg3.IsWhole) (arg4 : Memref sig .tc .vmem S1x1024x5120 .fp8e4m3) (harg4 : arg4.IsWhole) (arg5 : Memref sig .tc .vmem S1x160x1024 .i8) (harg5 : arg5.IsWhole) (arg6 : Memref sig .tc .vmem S1x64x1024 .bf16) (harg6 : arg6.IsWhole) (arg7 : Memref sig .tc .vmem S64x5120 .bf16) (harg7 : arg7.IsWhole) (arg8 : Memref sig .tc .vmem S160x1024 .i32) (harg8 : arg8.IsWhole)

/-- With activations in range, scale bytes between 1 and 254 and a size that is not negative, the body leaves the output block at its
    sums; and, where the group has rows, the scratch at the activations. -/
theorem left_value (f2 : BufTy.Contents (Elt Ideal) arg2.view.ty)
    (f3 : BufTy.Contents (Elt Ideal) arg3.view.ty) (f4 : BufTy.Contents (Elt Ideal) arg4.view.ty) (f5 : BufTy.Contents (Elt Ideal) arg5.view.ty)
    (f6 f6' : BufTy.Contents (Elt Ideal) arg6.view.ty) (f7 f7' : BufTy.Contents (Elt Ideal) arg7.view.ty) (f8' : BufTy.Contents (Elt Ideal) arg8.view.ty)
    (hL : Left (F := Ideal) c i arg2 harg2 arg3 harg3 arg4 harg4 arg5 harg5 arg6 harg6 arg7 harg7 arg8 harg8 f2 f3 f4 f5 f6 f6' f7 f7' f8')
    (hs : 0 ≤ (word (F := Ideal) i arg2 f2 : BitVec 32).toInt)
    (hx : ∀ j, Small (arg3.view.read (Elt Ideal) f3 j))
    (hb : ∀ j, 1 ≤ (arg5.view.read (Elt Ideal) f5 j : BitVec 8).toNat ∧ (arg5.view.read (Elt Ideal) f5 j : BitVec 8).toNat ≤ 254)
    (h7 : ¬ k0_cond3 i = 1#1 → k0_cond2 (word (F := Ideal) i arg2 f2) = 1#1 →
      ∀ (r : Fin 64) (D : Fin 5120), arg7.view.read (Elt Ideal) f7 (ix2 r D) = arg3.view.read (Elt Ideal) f3 (ix3 (0 : Fin 1) r D)) :
    (∀ (n : Fin 64) (O : Fin 1024), arg6.view.read (Elt Ideal) f6' (ix3 (0 : Fin 1) n O)
      = outEl (word (F := Ideal) i arg2 f2) n.val (fun D => arg3.view.read (Elt Ideal) f3 (ix3 (0 : Fin 1) n D))
          (fun D => arg4.view.read (Elt Ideal) f4 (ix3 (0 : Fin 1) O D)) (fun B => arg5.view.read (Elt Ideal) f5 (ix3 (0 : Fin 1) B O)))
    ∧ (k0_cond2 (word (F := Ideal) i arg2 f2) = 1#1 →
      ∀ (r : Fin 64) (D : Fin 5120), arg7.view.read (Elt Ideal) f7' (ix2 r D) = arg3.view.read (Elt Ideal) f3 (ix3 (0 : Fin 1) r D)) := by
  have hscr : k0_cond2 (word (F := Ideal) i arg2 f2) = 1#1 →
      ∀ (r : Fin 64) (D : Fin 5120), arg7.view.read (Elt Ideal) f7' (ix2 r D) = arg3.view.read (Elt Ideal) f3 (ix3 (0 : Fin 1) r D) := by
    intro h2 r D
    obtain ⟨-, -, ha, hn⟩ := hL.2 h2
    by_cases h3 : k0_cond3 i = 1#1
    · obtain ⟨G7, rfl⟩ := ha h3
      exact scratch_read c i arg2 harg2 arg3 harg3 arg4 harg4 arg5 harg5 arg6 harg6 arg7 harg7 arg8 harg8 h3 f3 hx G7 r D
    · rw [hn h3]
      exact h7 h3 h2 r D
  refine ⟨fun n O => ?_, hscr⟩
  rcases size_cases _ hs with h1 | h2
  · have hw := (cond1_iff _).mp h1
    have h2 : ¬ k0_cond2 (word (F := Ideal) i arg2 f2) = 1#1 := fun h2 => cond12 _ h2 h1
    rw [(hL.1 h2).2 h1, zero_read]
    unfold outEl
    rw [hw, rowSel_zero]
  · obtain ⟨⟨G8, e8⟩, ⟨G6, e6⟩, -, -⟩ := hL.2 h2
    rw [e6, out_read]
    unfold outEl
    refine congrArg (rowSel _ _) (Finset.sum_congr rfl fun D _ => ?_)
    unfold term
    rw [hscr h2, e8, table_read, sval_word8 _ (hb _).1 (hb _).2]

end Body

end Cert.Proof.KernelIdeal

end

end
-- ==== Proof.IdealPoint.lean ====
/- What `KernelIdeal`'s body sees and leaves at each grid point: the blocks of its inputs at coordinates, and the block of the
   result. -/
module

public import proofs.«01_k».proof.Proof.IdealRun
public import proofs.«01_k».proof.Proof.IdealLeft

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx
open Cert.Proof.Quant

variable (m : (ℓ : Loc nD τ sig) → Buf (Elt Ideal) ℓ)

/-- The arguments' contents. -/
abbrev X0 (c : Dev nD) : S12x64x5120.Idx → EReal := m ((c : Thread nD τ).loc main_arg0)
/-- The group sizes. -/
abbrev X1 (c : Dev nD) : S12.Idx → BitVec 32 := m ((c : Thread nD τ).loc main_arg1)
/-- The weights. -/
abbrev X2 (c : Dev nD) : S12x3072x5120.Idx → EReal := m ((c : Thread nD τ).loc main_arg2)
/-- The scale bytes. -/
abbrev X3 (c : Dev nD) : S12x3072x160.Idx → BitVec 8 := m ((c : Thread nD τ).loc main_arg3)

/-- The result array as a function of the arguments: the sum over the columns where the row lies in its group. -/
def G (c : Dev nD) (e : Fin 12) (n : Fin 64) (o : Fin 3072) : EReal :=
  outEl (X1 m c (ix1 e)) n.val (fun D => X0 m c (ix3 e n D)) (fun D => X2 m c (ix3 e o D)) (fun B => X3 m c (ix3 e o B))

/-- A point's coordinates. -/
abbrev pt (t : Fin (cfgA m).N) : grid0.Coords := (cfgA m).grid.coords t

/-- The activations' block is the group's. -/
theorem tr0 : ∀ i : grid0.Coords, cc0_transform_0 i = ![(i 0).val, 0, 0] := by decide +kernel
/-- The output's block is the group's and column block's own. -/
theorem tr3 : ∀ i : grid0.Coords, cc0_transform_3 i = ![(i 0).val, 0, (i 1).val] := by decide +kernel

/-- The activations' block is the point's group. -/
theorem iblk0_apply (c : Dev nD) (t : Fin (cfgA m).N) (r : Fin 64) (D : Fin 5120) :
    iblk m c 0 t (ix3 (0 : Fin 1) r D) = X0 m c (ix3 (pt m t 0) r D) := by
  refine congrArg (X0 m c) ?_
  funext a; apply Fin.ext
  match a with
  | ⟨0, _⟩ =>
    show cc0_transform_0 (pt m t) 0 * 1 + 1 * 0 = (pt m t 0).val
    rw [tr0]; show (pt m t 0).val * 1 + 1 * 0 = _; omega
  | ⟨1, _⟩ =>
    show cc0_transform_0 (pt m t) 1 * 64 + 1 * r.val = r.val
    rw [tr0]; show 0 * 64 + 1 * r.val = _; omega
  | ⟨2, _⟩ =>
    show cc0_transform_0 (pt m t) 2 * 5120 + 1 * D.val = D.val
    rw [tr0]; show 0 * 5120 + 1 * D.val = _; omega

/-- Every element of a block of activations is an activation. -/
theorem iblk0_mem (c : Dev nD) (t : Fin (cfgA m).N) (j : S1x64x5120.Idx) : ∃ k, iblk m c 0 t j = X0 m c k := ⟨_, rfl⟩

/-- The word of the table that the index maps read at a group. -/
theorem tblWord_eq (e : Fin 12) : tblWord (tbl m) e.val = X1 m 0 (ix1 e) := by
  unfold tblWord
  rw [dif_pos e.isLt]
  refine congrArg (X1 m 0) ?_
  funext a; apply Fin.ext
  match a with
  | ⟨0, _⟩ => show e.val + 1 * 0 = e.val; omega

/-- The size word that the body reads at a point. -/
theorem word_eq (t : Fin (cfgA m).N) : word (F := Ideal) (pt m t) (Memref.whole main_arg1) (tbl m 0) = X1 m 0 (ix1 (pt m t 0)) := by
  refine congrArg (X1 m 0) ?_
  funext a; apply Fin.ext
  match a with
  | ⟨0, _⟩ =>
    show k0_off1 (pt m t) 0 + 1 * 0 = (pt m t 0).val
    rw [k0_off1_eq]; show (pt m t 0).val + 1 * 0 = _; omega

/-- Where the group has rows, the weights' block is the point's group and column block. -/
theorem iblk1_apply (c : Dev nD) (t : Fin (cfgA m).N) (h : k0_cond2 (X1 m 0 (ix1 (pt m t 0))) = 1#1) (O : Fin 1024) (D : Fin 5120)
    (o : Fin 3072) (ho : o.val = (pt m t 1).val * 1024 + O.val) :
    iblk m c 1 t (ix3 (0 : Fin 1) O D) = X2 m c (ix3 (pt m t 0) o D) := by
  have hw : Scalar.cmpi .sgt (tblWord (tbl m) (pt m t 0).val) 0#32 = 1#1 := by
    rw [tblWord_eq m (pt m t 0)]; exact (cond2_iff _).mp h
  refine congrArg (X2 m c) ?_
  funext a; apply Fin.ext
  match a with
  | ⟨0, _⟩ =>
    show tf1 (tbl m) (pt m t) 0 * 1 + 1 * 0 = (pt m t 0).val
    rw [tf1_self _ _ hw]; show (pt m t 0).val * 1 + 1 * 0 = _; omega
  | ⟨1, _⟩ =>
    show tf1 (tbl m) (pt m t) 1 * 1024 + 1 * O.val = o.val
    rw [tf1_self _ _ hw]; show (pt m t 1).val * 1024 + 1 * O.val = _; omega
  | ⟨2, _⟩ =>
    show tf1 (tbl m) (pt m t) 2 * 5120 + 1 * D.val = D.val
    rw [tf1_self _ _ hw]; show 0 * 5120 + 1 * D.val = _; omega

/-- The transposed scale bytes, at an element. -/
theorem V_main_v0 (c : Dev nD) (e : Fin 12) (B : Fin 160) (o : Fin 3072) :
    V m c main_v0 (ix3 e B o) = X3 m c (ix3 e o B) := by
  show transpose S12x160x3072 [0, 2, 1] (X3 m c) transposes_S12x3072x160_S12x160x3072_0_2_1 (ix3 e B o) = _
  refine congrArg (X3 m c) ?_
  funext a; apply Fin.ext
  match a with
  | ⟨0, _⟩ => rfl
  | ⟨1, _⟩ => rfl
  | ⟨2, _⟩ => rfl

/-- Where the group has rows, the scale bytes' block is the point's group and column block. -/
theorem iblk2_apply (c : Dev nD) (t : Fin (cfgA m).N) (h : k0_cond2 (X1 m 0 (ix1 (pt m t 0))) = 1#1) (B : Fin 160) (O : Fin 1024)
    (o : Fin 3072) (ho : o.val = (pt m t 1).val * 1024 + O.val) :
    iblk m c 2 t (ix3 (0 : Fin 1) B O) = X3 m c (ix3 (pt m t 0) o B) := by
  have hw : Scalar.cmpi .sgt (tblWord (tbl m) (pt m t 0).val) 0#32 = 1#1 := by
    rw [tblWord_eq m (pt m t 0)]; exact (cond2_iff _).mp h
  refine Eq.trans ?_ (V_main_v0 m c (pt m t 0) B o)
  refine congrArg (V m c main_v0) ?_
  funext a; apply Fin.ext
  match a with
  | ⟨0, _⟩ =>
    show tf2 (tbl m) (pt m t) 0 * 1 + 1 * 0 = (pt m t 0).val
    rw [tf2_self _ _ hw]; show (pt m t 0).val * 1 + 1 * 0 = _; omega
  | ⟨1, _⟩ =>
    show tf2 (tbl m) (pt m t) 1 * 160 + 1 * B.val = B.val
    rw [tf2_self _ _ hw]; show 0 * 160 + 1 * B.val = _; omega
  | ⟨2, _⟩ =>
    show tf2 (tbl m) (pt m t) 2 * 1024 + 1 * O.val = o.val
    rw [tf2_self _ _ hw]; show (pt m t 1).val * 1024 + 1 * O.val = _; omega

/-- Every element of a block of scale bytes is a scale byte. -/
theorem iblk2_mem (c : Dev nD) (t : Fin (cfgA m).N) (j : S1x160x1024.Idx) : ∃ k, iblk m c 2 t j = X3 m c k := by
  have h : ∀ k : S12x160x3072.Idx, V m c main_v0 k = X3 m c (ix3 (k 0) (k 2) (k 1)) := fun k => by
    conv_lhs => rw [eq_ix3 k]
    exact V_main_v0 m c _ _ _
  exact ⟨_, h _⟩

/-- The block that a point leaves of the result. -/
def outAt (c : Dev nD) (t : Fin (cfgA m).N) : S1x64x1024.Idx → EReal := fun j =>
  G m c (pt m t 0) (j 1) ⟨(pt m t 1).val * 1024 + (j 2).val, by have h1 := i1_lt (pt m t); have h2 : (j 2).val < 1024 := (j 2).isLt; omega⟩

/-- A point that does not start a group is in the group of the point before it. -/
theorem step_group : ∀ t t' : Fin grid0.N, t'.val = t.val + 1 → ¬ k0_cond3 (grid0.coords t') = 1#1 → grid0.coords t' 0 = grid0.coords t 0 := by
  decide +kernel

/-- The first point starts a group. -/
theorem first_cond3 : ∀ t : Fin grid0.N, t.val = 0 → k0_cond3 (grid0.coords t) = 1#1 := by decide +kernel

/-- The sums of two settings agree when the words do and, where the group has rows, the operands do. -/
theorem outEl_congr (s : BitVec 32) (hs : 0 ≤ s.toInt) (n : Fin 64) (x x' w w' : Fin 5120 → EReal) (b b' : Fin 160 → BitVec 8)
    (h : k0_cond2 s = 1#1 → x = x' ∧ w = w' ∧ b = b') : outEl s n.val x w b = outEl s n.val x' w' b' := by
  rcases size_cases s hs with h1 | h2
  · have hw := (cond1_iff _).mp h1
    unfold outEl
    rw [hw, rowSel_zero, rowSel_zero]
  · obtain ⟨rfl, rfl, rfl⟩ := h h2
    rfl

end Cert.Proof.KernelIdeal

end

end
-- ==== Proof.IdealValue.lean ====
/- The value run of `KernelIdeal`: the region with the scratch tracked from point to point, and the array that it leaves. -/
module

public import proofs.«01_k».proof.Proof.IdealPoint
public import Idealize.ShloMosaic.Lib.Pipeline.ValueKit
public import Idealize.ShloMosaic.Lib.Pipeline.Covers

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proof.Quant

/-- The resource algebra of the pipeline's run. -/
local notation "𝕄" => MT nD τ sig Unit (Elt Ideal) ℕ (UR sig nD τ) ℕ

variable (m : (ℓ : Loc nD τ sig) → Buf (Elt Ideal) ℓ) (ρ : Dev nD → PrngReg)

/-- What the arguments are taken to satisfy: activations in range, sizes that are not negative, scale bytes from 1 to 254. -/
structure InRange : Prop where
  act : ∀ c j, Small (X0 m c j)
  size : ∀ c j, 0 ≤ (X1 m c j).toInt
  byte : ∀ c j, 1 ≤ (X3 m c j).toNat ∧ (X3 m c j).toNat ≤ 254

/-- Before point `n`, unless a group starts there or has no row, the scratch is the group's activations. -/
def Track (c : Dev nD) (n : ℕ) (f7 : S64x5120.Idx → EReal) : Prop :=
  ∀ t : Fin (cfgA m).N, t.val = n → ¬ k0_cond3 (pt m t) = 1#1 → k0_cond2 (X1 m 0 (ValueIdx.ix1 (pt m t 0))) = 1#1 →
    ∀ (r : Fin 64) (D : Fin 5120), f7 (ValueIdx.ix2 r D) = X0 m c (ValueIdx.ix3 (pt m t 0) r D)

/-- The invariant before point `n`. -/
def ΦN (c : Dev nD) (n : ℕ) : sProp 𝕄 :=
  iprop((((∃ f : Buf (Elt Ideal) ((c : Thread nD τ).loc cc0_scratch0), ⌜Track m c n f⌝ ∗ ((c : Thread nD τ).loc cc0_scratch0) ↦{fullShare} f)
      ∗ (∃ f : Buf (Elt Ideal) ((c : Thread nD τ).loc cc0_scratch1), ((c : Thread nD τ).loc cc0_scratch1) ↦{fullShare} f))
      ∗ ∃ r, prngReg c r) ∗ Pipeline.ΦT pre0 (tbl m) c)

/-- The invariant at each point. -/
def ΦV (c : Dev nD) (n : Fin ((cfgA m).N + 1)) : sProp 𝕄 := ΦN m c n.val

/-- The value run's proof data. -/
abbrev datsV := datsOf m (ΦV m) (fun c t => outAt m c t)

/-- What the body leaves at a point, from its blocks and a tracked scratch: the point's block of the result, and the scratch
    tracked at the next point. -/
theorem point_value (h : InRange m) (c : Dev nD) (t : Fin (cfgA m).N)
    (f3 : BufTy.Contents (Elt Ideal) (st0 m t 0).view.ty) (f4 : BufTy.Contents (Elt Ideal) (st0 m t 1).view.ty)
    (f5 : BufTy.Contents (Elt Ideal) (st0 m t 2).view.ty) (f6 f6' : BufTy.Contents (Elt Ideal) (st0 m t 3).view.ty)
    (f7 f7' : S64x5120.Idx → EReal) (f8' : S160x1024.Idx → BitVec 32)
    (h3 : (st0 m t 0).view.read (Elt Ideal) f3 = iblk m c 0 t) (h4 : (st0 m t 1).view.read (Elt Ideal) f4 = iblk m c 1 t)
    (h5 : (st0 m t 2).view.read (Elt Ideal) f5 = iblk m c 2 t)
    (hT : Track m c t.val f7)
    (hL : Left (F := Ideal) c (pt m t) (Memref.whole main_arg1) (Memref.isWhole_whole _)
      (st0 m t 0) (hstage0_0 (((cfgA m).slots t 0).cast nbuf0_0)) (st0 m t 1) (hstage0_1 (((cfgA m).slots t 1).cast nbuf0_1))
      (st0 m t 2) (hstage0_2 (((cfgA m).slots t 2).cast nbuf0_2)) (st0 m t 3) (hstage0_3 (((cfgA m).slots t 3).cast nbuf0_3))
      (Memref.whole cc0_scratch0) (Memref.isWhole_whole _) (Memref.whole cc0_scratch1) (Memref.isWhole_whole _)
      (tbl m 0) f3 f4 f5 f6 f6' f7 f7' f8') :
    (st0 m t 3).view.read (Elt Ideal) f6' = outAt m c t ∧ Track m c (t.val + 1) f7' := by
  have hw := word_eq m t
  have hv := left_value c (pt m t) (Memref.whole main_arg1) (Memref.isWhole_whole _)
      (st0 m t 0) (hstage0_0 (((cfgA m).slots t 0).cast nbuf0_0)) (st0 m t 1) (hstage0_1 (((cfgA m).slots t 1).cast nbuf0_1))
      (st0 m t 2) (hstage0_2 (((cfgA m).slots t 2).cast nbuf0_2)) (st0 m t 3) (hstage0_3 (((cfgA m).slots t 3).cast nbuf0_3))
      (Memref.whole cc0_scratch0) (Memref.isWhole_whole _) (Memref.whole cc0_scratch1) (Memref.isWhole_whole _)
      (tbl m 0) f3 f4 f5 f6 f6' f7 f7' f8' hL
      (by rw [hw]; exact h.size 0 _)
      (fun j => by obtain ⟨k, hk⟩ := iblk0_mem m c t j; exact (congrFun h3 j).trans hk ▸ h.act c k)
      (fun j => by
        obtain ⟨k, hk⟩ := iblk2_mem m c t j
        have := h.byte c k
        rw [← (congrFun h5 j).trans hk] at this
        exact this)
      (fun hc3 hc2 r D => (hT t rfl hc3 (hw ▸ hc2) r D).trans ((congrFun h3 (ValueIdx.ix3 (0 : Fin 1) r D)).trans (iblk0_apply m c t r D)).symm)
  obtain ⟨hout, hscr⟩ := hv
  refine ⟨?_, ?_⟩
  · refine funext fun (j : S1x64x1024.Idx) => ?_
    have hj : j = ValueIdx.ix3 (0 : Fin 1) (j 1) (j 2) := by
      have h0 : (j 0).val < 1 := (j 0).isLt
      funext a; apply Fin.ext
      match a with
      | ⟨0, _⟩ => show (j 0).val = 0; omega
      | ⟨1, _⟩ => rfl
      | ⟨2, _⟩ => rfl
    refine (congrArg ((st0 m t 3).view.read (Elt Ideal) f6') hj).trans ((hout (j 1) (j 2)).trans ?_)
    rw [hw]
    unfold outAt G
    rw [show X1 m c (ValueIdx.ix1 (pt m t 0)) = X1 m 0 (ValueIdx.ix1 (pt m t 0)) from by rw [Subsingleton.elim c 0]]
    refine outEl_congr _ (h.size 0 _) (j 1) _ _ _ _ _ _ fun hc2 => ⟨?_, ?_, ?_⟩
    · funext D; exact (congrFun h3 _).trans (iblk0_apply m c t _ D)
    · funext D; exact (congrFun h4 _).trans (iblk1_apply m c t hc2 _ D _ rfl)
    · funext B; exact (congrFun h5 _).trans (iblk2_apply m c t hc2 B _ _ rfl)
  · intro t' ht' hc3 hc2 r D
    have hg : pt m t' 0 = pt m t 0 := step_group t t' ht' hc3
    rw [hg] at hc2 ⊢
    exact (hscr (hw ▸ hc2) r D).trans ((congrFun h3 (ValueIdx.ix3 (0 : Fin 1) r D)).trans (iblk0_apply m c t r D))

/-- The body at every point, from the inputs' blocks and a tracked scratch. -/
theorem sound_value (h : InRange m) (c : Dev nD) (t : Fin (cfgA m).N) :
    iprop(ΦV m c t.castSucc ∗ (datsV m 0 c).owesAt () t.castSucc
      ∗ (∃ d, owns (c : Thread nD τ) (st0 m t 0) fullShare ((datsV m 0 c).before 0 t d))
      ∗ (∃ d, owns (c : Thread nD τ) (st0 m t 1) fullShare ((datsV m 0 c).before 1 t d))
      ∗ (∃ d, owns (c : Thread nD τ) (st0 m t 2) fullShare ((datsV m 0 c).before 2 t d))
      ∗ (∃ d, owns (c : Thread nD τ) (st0 m t 3) fullShare ((datsV m 0 c).before 3 t d)))
    ⊢ wp Idealize.ShloMosaic.frame (wpE (defs₀ (F := Ideal)) Variants.none c none) Set.univ (bodyAt m t) (fun _ =>
      iprop(ΦV m c t.succ ∗ (datsV m 0 c).owesAt () t.succ
        ∗ owns (c : Thread nD τ) (st0 m t 0) fullShare ((datsV m 0 c).after 0 t)
        ∗ owns (c : Thread nD τ) (st0 m t 1) fullShare ((datsV m 0 c).after 1 t)
        ∗ owns (c : Thread nD τ) (st0 m t 2) fullShare ((datsV m 0 c).after 2 t)
        ∗ owns (c : Thread nD τ) (st0 m t 3) fullShare ((datsV m 0 c).after 3 t))) := by
  simp only [before0_0, before0_1, before0_2, after0_0, after0_1, after0_2, after0_3]
  rw [show (datsV m 0 c).owesAt () t.succ = (datsV m 0 c).owesAt () t.castSucc from rfl,
    show ΦV m c t.castSucc = ΦN m c t.val from rfl, show ΦV m c t.succ = ΦN m c (t.val + 1) from rfl]
  unfold ΦN Pipeline.ΦT Pipeline.prefHeld
  rw [show (Finset.univ : Finset (Fin pre0.K)) = {0} from rfl, bigSep_singleton]
  unfold owns
  iintro ⟨⟨⟨⟨⟨%f7, %hT, H7⟩, ⟨%f8, H8⟩⟩, Hr⟩, H2⟩, Ho, ⟨%d0, %f3, %hf3, H3⟩, ⟨%d1, %f4, %hf4, H4⟩, ⟨%d2, %f5, %hf5, H5⟩, ⟨%d3, %f6, -, H6⟩⟩
  iapply (sound_kernel c ((cfgA m).grid.coords t) _ _ _ _ _ _ _ _ _ _ _ _ _ _ fullShare.right (tbl m 0) f3 f4 f5 f6 f7 f8 _)
  simp only [Memref.view_whole, View.set_whole]
  isplitl [H2]; · iexact H2
  isplitl [H3]; · iexact H3
  isplitl [H4]; · iexact H4
  isplitl [H5]; · iexact H5
  isplitl [H6]; · iexact H6
  isplitl [H7]; · iexact H7
  isplitl [H8]; · iexact H8
  iintro %f6' %f7' %f8' ⟨H2, H3, H4, H5, H6, H7, H8, %hL⟩
  have hP := point_value m h c t f3 f4 f5 f6 f6' f7 f7' f8' hf3 hf4 hf5 hT hL
  isplitl [H2 H7 H8 Hr]
  · isplitr [H2]
    · isplitl [H7 H8]
      · isplitl [H7]
        · iexists f7'; isplitr; · ipureintro; exact hP.2
          iexact H7
        · iexists f8'; iexact H8
      · iexact Hr
    · iexact H2
  isplitl [Ho]; · iexact Ho
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists f6'; isplitr; · ipureintro; exact hP.1
  iexact H6

/-- A word read from the table is not negative. -/
theorem atD_nonneg (h : InRange m) (o : Fin 1 → ℕ) : 0 ≤ ((tbl m).atD 0 o : BitVec 32).toInt := by
  unfold Pipeline.Prefetch.Contents.atD
  split
  · exact h.size 0 _
  · exact le_refl 0

/-- The body stores the output's block at every point. -/
theorem live3 (h : InRange m) (t : Fin (cfgA m).N) : (cfgA m).idle 3 ((cfgA m).grid.coords t) = false := by
  show (!(k0_cond1 ((tbl m).atD 0 (k0_off1 (pt m t))) == 1#1) && !(k0_cond2 ((tbl m).atD 0 (k0_off1 (pt m t))) == 1#1)) = false
  rcases size_cases _ (atD_nonneg m h (k0_off1 (pt m t))) with h1 | h1
  · rw [h1]; rfl
  · rw [h1, Bool.and_comm]; rfl

/-- The region's body obligation. -/
theorem body_value (h : InRange m) (c : Dev nD) : BodyObligationLoose (datsV m 0 c) (defs₀ (F := Ideal)) Variants.none () Set.univ := fun t => by
  rw [bigSep_W0, bigSep_W0, defs₀_row]
  erw [live3 m h t]
  exact triple_restated (sound_value m h c t) rfl .rfl fun _ => .rfl

/-- Entering the region, the invariant holds: the first point starts a group. -/
theorem hin_value (c : Dev nD) : iprop(Pipeline.ΦA spec0 c ∗ Pipeline.ΦT pre0 (tbl m) c) ⊢ ΦN m c 0 := by
  unfold ΦN Pipeline.ΦA
  rw [scopedRest0_eq]
  iintro ⟨⟨⟨⟨%f7, H7⟩, H8⟩, Hr⟩, H2⟩
  isplitr [H2]
  · isplitr [Hr]
    · isplitl [H7]
      · iexists f7; isplitr
        · ipureintro
          exact fun t ht hc => absurd (first_cond3 t ht) hc
        iexact H7
      · iexact H8
    · iexact Hr
  · iexact H2

/-- Leaving the region, the invariant gives the scratch back. -/
theorem hout_value (c : Dev nD) (n : ℕ) : ΦN m c n ⊢ Pipeline.ΦA spec0 c := by
  unfold ΦN Pipeline.ΦA
  rw [scopedRest0_eq]
  iintro ⟨⟨⟨⟨%f7, -, H7⟩, H8⟩, Hr⟩, -⟩
  isplitr [Hr]
  · isplitl [H7]
    · iexists f7; iexact H7
    · iexact H8
  · iexact Hr

set_option backward.isDefEq.respectTransparency.types false in
set_option maxHeartbeats 800000 in
/-- The run of @main with the output's blocks known. -/
theorem run_value (h : InRange m) : θ_run defs (onTc (τ := τ) (main (F := Ideal))) (s₀ m ρ)
    (Pipeline.FramePost (Pipeline.pin pcfgs (adm m)) (datsV m) (0 : Fin 1) (V m)) :=
  Pipeline.θ_run_frameP_track (Q' := _) pcfgs (adm m) (datsV m) (0 : Fin 1) launch0 defs₀ Variants.none m ρ main
    (hbody := fun c => body_value m h c) (hshare := fun c => (datsV m 0 c).share_full fun _ => rfl)
    (howed := fun _ _ => rfl) (V := V m) (hmain := hmain m) (hA := A_eq m (ΦV m) _) (hpf := fun c k => by rw [Subsingleton.elim c 0]; rfl)
    (hin := fun c => hin_value m c) (hout := fun c => hout_value m c _)

/-- The result array. -/
def R (c : Dev nD) : S12x64x3072.Idx → EReal := fun j => G m c (j 0) (j 1) (j 2)

/-- Every group and column block is a point's. -/
theorem cover : ∀ (a : Fin 12) (b : Fin 3), ∃ t : Fin grid0.N, ((grid0.coords t) 0).val = a.val ∧ ((grid0.coords t) 1).val = b.val := by
  decide +kernel

/-- The output's blocks are not empty. -/
theorem size3 : ∀ a, 0 < ((cfgA m).win 3).size a := fun (a : Fin 3) => by
  match a with
  | ⟨0, _⟩ => show 0 < 1; omega
  | ⟨1, _⟩ => show 0 < 64; omega
  | ⟨2, _⟩ => show 0 < 1024; omega

/-- The points' blocks cover the result. -/
theorem covers3 : ((cfgA m).win 3).Covers :=
  Pipeline.Window.covers_of_index_surj _ rfl (size3 m) fun β => by
    have h0 : (β (0 : Fin 3)).val < 12 := lt_of_lt_of_eq (β (0 : Fin 3)).isLt (show (12 + 1 - 1) / 1 = 12 by norm_num)
    have h1 : (β (1 : Fin 3)).val < 1 := lt_of_lt_of_eq (β (1 : Fin 3)).isLt (show (64 + 64 - 1) / 64 = 1 by norm_num)
    have h2 : (β (2 : Fin 3)).val < 3 := lt_of_lt_of_eq (β (2 : Fin 3)).isLt (show (3072 + 1024 - 1) / 1024 = 3 by norm_num)
    obtain ⟨t, ht0, ht1⟩ := cover ⟨_, h0⟩ ⟨_, h2⟩
    refine ⟨t, fun (a : Fin 3) => ?_⟩
    show cc0_transform_3 (grid0.coords t) a = _
    rw [tr3]
    match a with
    | ⟨0, _⟩ => exact ht0
    | ⟨1, _⟩ => show 0 = (β (1 : Fin 3)).val; omega
    | ⟨2, _⟩ => exact ht1

/-- The array after the run. -/
theorem final3 (c : Dev nD) : (datsV m 0 c).arrAt 3 (cfgA m).N = R m c := by
  refine (datsV m 0 c).arrAt_eq_of_covers 3 _ (covers3 m) fun t _ (y : S1x64x1024.Idx) => ?_
  show outAt m c t y = R m c ((((cfgA m).win 3).blk t).view.emb y)
  have hy0 : (y 0).val < 1 := (y 0).isLt
  have e : (((cfgA m).win 3).blk t).view.emb y = ValueIdx.ix3 (pt m t 0) (y 1)
      (⟨(pt m t 1).val * 1024 + (y 2).val, by have h1 := i1_lt (pt m t); have h2 : (y 2).val < 1024 := (y 2).isLt; omega⟩ : Fin 3072) := by
    funext a; apply Fin.ext
    match a with
    | ⟨0, _⟩ =>
      show cc0_transform_3 (pt m t) 0 * 1 + 1 * (y 0).val = (pt m t 0).val
      rw [tr3]; show (pt m t 0).val * 1 + 1 * (y 0).val = _; omega
    | ⟨1, _⟩ =>
      show cc0_transform_3 (pt m t) 1 * 64 + 1 * (y 1).val = (y 1).val
      rw [tr3]; show 0 * 64 + 1 * (y 1).val = _; omega
    | ⟨2, _⟩ =>
      show cc0_transform_3 (pt m t) 2 * 1024 + 1 * (y 2).val = (pt m t 1).val * 1024 + (y 2).val
      rw [tr3]; show (pt m t 1).val * 1024 + 1 * (y 2).val = _; omega
  rw [e]
  rfl

/-- The run of @main from arguments in range: the result array, and the arguments unchanged. -/
theorem value (h : InRange m) : θ_run defs (onTc (τ := τ) (main (F := Ideal))) ⟨m, fun _ => 0, ρ⟩ (fun r => ∀ c : Dev nD,
      r.2.mem ((c.tc : Thread nD τ).loc main_v1) = R m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    refine ⟨?_, ?_, ?_, ?_, ?_⟩
    · exact ((h c).1 3).trans (final3 m c)
    · exact ((h c).1 0).trans ((datsV m 0 c).arrAt_in 0 rfl _)
    · exact (h c).2 main_arg1 (show main_arg1 ∈ Pipeline.restRefs sig spec0 by decide)
    · exact ((h c).1 1).trans ((datsV m 0 c).arrAt_in 1 rfl _)
    · exact (h c).2 main_arg3 (show main_arg3 ∈ Pipeline.restRefs sig spec0 by decide)) (run_value m ρ h)

end Cert.Proof.KernelIdeal

end

end
-- ==== Proof.RefQuant.lean ====
/- The exponent that the reference finds by comparing with every power of two, over the extended reals. -/
module

public import proofs.«01_k».proof.Proof.Quant
public import Idealize.ShloMosaic.PureOps.Reduce

@[expose] public section

set_option maxRecDepth 8192

noncomputable section

namespace Cert.Proof.Quant

open Idealize.ShloMosaic

/-- The signed maximum is the one of the two words that is not below the other. -/
theorem maxsi_cases (x y : BitVec 32) : (IntOp.maxsi x y = x ∧ y.toInt ≤ x.toInt) ∨ (IntOp.maxsi x y = y ∧ x.toInt ≤ y.toInt) := by
  unfold IntOp.maxsi
  by_cases h : y.slt x = true
  · have := BitVec.slt_iff_toInt_lt.mp h
    rw [if_pos h]; exact .inl ⟨rfl, by omega⟩
  · have h' : ¬ y.toInt < x.toInt := fun hh => h (BitVec.slt_iff_toInt_lt.mpr hh)
    rw [if_neg h]; exact .inr ⟨rfl, by omega⟩

/-- The signed maximum of finitely many words is one of them or the value it starts from, and is at least each. -/
theorem fold_maxsi {ι : Type} [DecidableEq ι] (s : Finset ι) (a : BitVec 32) (f : ι → BitVec 32) :
    (s.fold IntOp.maxsi a f = a ∨ ∃ i ∈ s, s.fold IntOp.maxsi a f = f i)
      ∧ ∀ i ∈ s, (f i).toInt ≤ (s.fold IntOp.maxsi a f).toInt := by
  induction s using Finset.induction_on with
  | empty => exact ⟨.inl rfl, fun i hi => absurd hi (Finset.notMem_empty i)⟩
  | insert b s hb ih =>
    rw [Finset.fold_insert hb]
    obtain ⟨h1, h2⟩ := ih
    rcases maxsi_cases (f b) (s.fold IntOp.maxsi a f) with ⟨e, hle⟩ | ⟨e, hle⟩
    · rw [e]
      refine ⟨.inr ⟨b, Finset.mem_insert_self _ _, rfl⟩, fun i hi => ?_⟩
      rcases Finset.mem_insert.mp hi with rfl | hi
      · exact le_refl _
      · exact le_trans (h2 i hi) hle
    · rw [e]
      refine ⟨?_, fun i hi => ?_⟩
      · rcases h1 with h1 | ⟨i, hi, h1⟩
        · exact .inl h1
        · exact .inr ⟨i, Finset.mem_insert_of_mem hi, h1⟩
      · rcases Finset.mem_insert.mp hi with rfl | hi
        · exact hle
        · exact h2 i hi

/-- The candidate at `k`: one above the exponent `k - 126` where that power is at most the value, the least exponent
    otherwise. -/
def cand (t : EReal) (k : Fin 254) : BitVec 32 :=
  Scalar.select (Ideal.cmp .ole (Ideal.exp2 (((IntOp.subi (BitVec.ofNat 32 k.val) 126#32).toInt : ℝ) : EReal)) t)
    (IntOp.addi (IntOp.subi (BitVec.ofNat 32 k.val) 126#32) 1#32) 4294967170#32

/-- The exponent: the largest candidate. -/
def mexp (t : EReal) : BitVec 32 := (Finset.univ : Finset (Fin 254)).fold IntOp.maxsi 2147483648#32 (cand t)

/-- The candidates' exponents as integers. -/
theorem cand_words : ∀ k : Fin 254, (IntOp.subi (BitVec.ofNat 32 k.val) 126#32).toInt = (k.val : ℤ) - 126
    ∧ (IntOp.addi (IntOp.subi (BitVec.ofNat 32 k.val) 126#32) 1#32).toInt = (k.val : ℤ) - 125 := by decide +kernel

/-- A power of two not above the number gives its exponent and one. -/
theorem cand_pos (t : ℝ) (k : Fin 254) (h : (2 : ℝ) ^ ((k.val : ℤ) - 126) ≤ t) : (cand (t : EReal) k).toInt = (k.val : ℤ) - 125 := by
  unfold cand
  rw [(cand_words k).1, exp2_int]
  have hc : Ideal.cmp .ole (p2 ((k.val : ℤ) - 126)) (t : EReal) = 1#1 := by
    unfold Ideal.cmp p2
    simp only [EReal.coe_le_coe_iff, h, decide_true]; rfl
  rw [hc]
  exact (cand_words k).2

/-- A power of two above the number gives the least exponent. -/
theorem cand_neg (t : ℝ) (k : Fin 254) (h : ¬ (2 : ℝ) ^ ((k.val : ℤ) - 126) ≤ t) : (cand (t : EReal) k).toInt = -126 := by
  unfold cand
  rw [(cand_words k).1, exp2_int]
  have hc : Ideal.cmp .ole (p2 ((k.val : ℤ) - 126)) (t : EReal) = 0#1 := by
    unfold Ideal.cmp p2
    simp only [EReal.coe_le_coe_iff, h, decide_false]; rfl
  rw [hc, ValueIdx.select_zero]
  decide

/-- The exponent names a power of two above the value. -/
theorem mexp_spec (t : ℝ) (ht : t < (2 : ℝ) ^ (121 : ℤ)) :
    -126 ≤ (mexp (t : EReal)).toInt ∧ (mexp (t : EReal)).toInt ≤ 122 ∧ t < (2 : ℝ) ^ (mexp (t : EReal)).toInt := by
  have h := fold_maxsi (Finset.univ : Finset (Fin 254)) 2147483648#32 (cand (t : EReal))
  change (mexp (t : EReal) = _ ∨ ∃ i ∈ (Finset.univ : Finset (Fin 254)), mexp (t : EReal) = cand (t : EReal) i)
    ∧ ∀ i ∈ (Finset.univ : Finset (Fin 254)), (cand (t : EReal) i).toInt ≤ (mexp (t : EReal)).toInt at h
  obtain ⟨h1, h2⟩ := h
  have hlow : ∀ k, -126 ≤ (cand (t : EReal) k).toInt := fun k => by
    by_cases hk : (2 : ℝ) ^ ((k.val : ℤ) - 126) ≤ t
    · rw [cand_pos t k hk]; omega
    · rw [cand_neg t k hk]
  have hge : -126 ≤ (mexp (t : EReal)).toInt := le_trans (hlow 0) (h2 0 (Finset.mem_univ _))
  have hup : (mexp (t : EReal)).toInt ≤ 122 := by
    rcases h1 with h1 | ⟨k, -, h1⟩
    · rw [h1]; decide
    · rw [h1]
      by_cases hk : (2 : ℝ) ^ ((k.val : ℤ) - 126) ≤ t
      · rw [cand_pos t k hk]
        have := lt_of_pow ht hk
        omega
      · rw [cand_neg t k hk]; omega
  refine ⟨hge, hup, ?_⟩
  by_contra hc
  have hc := not_lt.1 hc
  obtain ⟨e, he⟩ : ∃ e, e = (mexp (t : EReal)).toInt := ⟨_, rfl⟩
  rw [← he] at hc hge hup
  have hk : ((e + 126).toNat : ℤ) - 126 = e := by omega
  have := h2 ⟨(e + 126).toNat, by omega⟩ (Finset.mem_univ _)
  rw [cand_pos t _ (by rw [hk]; exact hc), ← he] at this
  dsimp only at this
  omega

/-- The scale byte decodes to the exponent. -/
theorem byte_back : ∀ n : Fin 249,
    (IntOp.subi (BitVec.setWidth 32 (BitVec.setWidth 8 (IntOp.addi (BitVec.ofInt 32 ((n.val : ℤ) - 126)) 127#32))) 127#32).toInt = (n.val : ℤ) - 126
    ∧ (IntOp.subi 0#32 (BitVec.ofInt 32 ((n.val : ℤ) - 126))).toInt = -((n.val : ℤ) - 126) := by decide +kernel

/-- A word whose value is between the least and the greatest exponent, its scale byte and its negation. -/
theorem byte_word (w : BitVec 32) (h1 : -126 ≤ w.toInt) (h2 : w.toInt ≤ 122) :
    (IntOp.subi (BitVec.setWidth 32 (BitVec.setWidth 8 (IntOp.addi w 127#32))) 127#32).toInt = w.toInt
    ∧ (IntOp.subi 0#32 w).toInt = -w.toInt := by
  have h := byte_back ⟨(w.toInt + 126).toNat, by omega⟩
  have e : (((w.toInt + 126).toNat : ℕ) : ℤ) - 126 = w.toInt := by omega
  dsimp only at h
  rw [e, BitVec.ofInt_toInt] at h
  exact h

/-- The reference's exponent of a block with largest magnitude `a`. -/
def rexp (a : EReal) : BitVec 32 := Scalar.select (Ideal.cmp .oeq a 0) 0#32 (mexp (a * ((inv448 : ℝ) : EReal)))

/-- The exponent lies in range and its power of two bounds the scaled number. -/
theorem rexp_spec (a : ℝ) (ha : a ≤ big) : -126 ≤ (rexp (a : EReal)).toInt ∧ (rexp (a : EReal)).toInt ≤ 122
    ∧ a * inv448 < (2 : ℝ) ^ (rexp (a : EReal)).toInt := by
  unfold rexp
  by_cases h0 : a = 0
  · subst h0
    have hc : Ideal.cmp .oeq (((0 : ℝ) : EReal)) 0 = 1#1 := by
      unfold Ideal.cmp
      rw [EReal.coe_zero]
      simp
    rw [hc, show Scalar.select 1#1 0#32 (mexp (((0 : ℝ) : EReal) * ((inv448 : ℝ) : EReal))) = 0#32 from rfl]
    refine ⟨by decide, by decide, ?_⟩
    rw [zero_mul, show (0#32 : BitVec 32).toInt = 0 from by decide]
    norm_num
  · have hc : Ideal.cmp .oeq ((a : EReal)) 0 = 0#1 := by
      have : ¬ ((a : EReal) = 0) := fun h => h0 (EReal.coe_eq_zero.mp h)
      unfold Ideal.cmp
      simp [this]
    rw [hc, ValueIdx.select_zero, ← EReal.coe_mul]
    exact mexp_spec _ (big_lt ha)

/-- Quantising and dequantising as the reference does it is the identity on a block of reals in range. -/
theorem rquant_eq (x a : ℝ) (hx : |x| ≤ a) (ha : a ≤ big) :
    min (Ideal.ofBits .f32 0x43E00000#32) (max (Ideal.ofBits .f32 0xC3E00000#32)
        ((x : EReal) * Ideal.exp2 (((IntOp.subi 0#32 (rexp (a : EReal))).toInt : ℝ) : EReal)))
      * Ideal.exp2 (((IntOp.subi (BitVec.setWidth 32 (BitVec.setWidth 8 (IntOp.addi (rexp (a : EReal)) 127#32))) 127#32).toInt : ℝ) : EReal)
    = (x : EReal) := by
  obtain ⟨h1, h2, h3⟩ := rexp_spec a ha
  obtain ⟨e1, e2⟩ := byte_word _ h1 h2
  rw [e1, e2, exp2_int, exp2_int, ofBits_448, ofBits_neg448]
  exact clip_scale x a _ hx h3

/-- A scale byte of the weights decodes to the power of two that it stands for. -/
theorem byte_exp (b : BitVec 8) :
    Ideal.exp2 (((IntOp.subi (BitVec.setWidth 32 b) 127#32).toInt : ℝ) : EReal) = p2 ((b.toNat : ℤ) - 127) := by
  have h : ∀ n : Fin 256, (IntOp.subi (BitVec.setWidth 32 (BitVec.ofNat 8 n.val)) 127#32).toInt = (n.val : ℤ) - 127 := by decide +kernel
  have := h ⟨b.toNat, b.isLt⟩
  dsimp only at this
  rw [show BitVec.ofNat 8 b.toNat = b from by simp] at this
  rw [this, exp2_int]

end Cert.Proof.Quant

end

end
-- ==== Proof.RefValue.lean ====
/- The reference's result read at an element over the extended reals. -/
module

public import proofs.«01_k».proof.Proof.Gen.ReferenceIdeal.Skeleton
public import proofs.«01_k».proof.Proof.RefQuant
public import Idealize.ShloMosaic.Lib.ValueLayout
public import Idealize.ShloMosaic.Lib.Pointwise

@[expose] public section

set_option maxRecDepth 8192

noncomputable section

namespace Cert.Proof.ReferenceIdeal

open Cert.ReferenceIdeal Cert.ReferenceIdeal.Gen
open Idealize.ShloMosaic Idealize.ShloMosaic.TcCoe
open Cert.Proof.Quant

/-- An activation block, read at an element. -/
theorem pay2_apply (a0 : Vec Ideal S12x64x5120 .bf16) (e : Fin 12) (n : Fin 64) (B : Fin 160) (q : Fin 32) :
    k0_pay2 (F := Ideal) a0 (ix4 e n B q) = a0 (ix3 e n ⟨B.val * 32 + q.val, by omega⟩) := by
  unfold k0_pay2
  pointwise

/-- Each block's largest magnitude. -/
def vmax (a0 : Vec Ideal S12x64x5120 .bf16) : FVec Ideal S12x64x160 .f32 :=
  multiReduction .maximumf [3] S12x64x160 (absf (k0_pay2 (F := Ideal) a0)) 0xFF800000#32 reduces_S12x64x160x32_S12x64x160 (.inl rfl) rfl

/-- A block's largest magnitude, as a maximum over the block. -/
theorem vmax_apply (a0 : Vec Ideal S12x64x5120 .bf16) (e : Fin 12) (n : Fin 64) (B : Fin 160) :
    vmax a0 (ix3 e n B) = (Finset.univ : Finset (Fin 32)).fold max (⊥ : EReal)
      (fun q => max (a0 (ix3 e n ⟨B.val * 32 + q.val, by omega⟩) : EReal) (-(a0 (ix3 e n ⟨B.val * 32 + q.val, by omega⟩) : EReal))) := by
  unfold vmax
  refine (Ideal.multiReduction_maximumf_single (absf (k0_pay2 (F := Ideal) a0)) _ _ _ _ _).trans ?_
  show Finset.fold max (Ideal.ofBits .f32 0xFF800000#32) _ _ = _
  rw [ofBits_neg_inf]
  refine Finset.fold_congr fun q _ => ?_
  have h : reduces_S12x64x160x32_S12x64x160.lift (ix3 e n B) q = ix4 e n B q := by
    funext a; apply Fin.ext
    match a with
    | ⟨0, _⟩ => rfl
    | ⟨1, _⟩ => rfl
    | ⟨2, _⟩ => rfl
    | ⟨3, _⟩ => rfl
  exact congrArg (fun v : EReal => max v (-v)) ((congrArg (k0_pay2 (F := Ideal) a0) h).trans (pay2_apply a0 e n B q))

/-- Each block's scaled maximum beside every exponent. -/
def vcol (t : FVec Ideal S12x64x160 .f32) : FVec Ideal S12x64x160x254 .f32 :=
  broadcastTo S12x64x160x254 (shapeCast S12x64x160x1 t shapeCasts_S12x64x160_S12x64x160x1) broadcasts_S12x64x160x1_S12x64x160x254

/-- The column of scaled maxima, at an element. -/
theorem vcol_apply (t : FVec Ideal S12x64x160 .f32) (e : Fin 12) (n : Fin 64) (B : Fin 160) (k : Fin 254) :
    vcol t (ix4 e n B k) = t (ix3 e n B) := by
  unfold vcol
  pointwise

/-- Every exponent, less 126. -/
def vexp : IVec S12x64x160x254 32 :=
  subi (iota .tc S12x64x160x254 32 [3] iota_S12x64x160x254_d3_w32) (broadcast S12x64x160x254 126#32)

/-- The exponents tried, at an element. -/
theorem vexp_apply (e : Fin 12) (n : Fin 64) (B : Fin 160) (k : Fin 254) :
    vexp (ix4 e n B k) = IntOp.subi (BitVec.ofNat 32 k.val) 126#32 := by
  unfold vexp
  pointwise

/-- The candidates. -/
def vcand (t : FVec Ideal S12x64x160 .f32) : IVec S12x64x160x254 32 :=
  select (cmpf .ole (exp2 (sitofp (F := Ideal) .f32 vexp)) (vcol t)) (addi vexp (broadcast S12x64x160x254 1#32))
    (broadcast S12x64x160x254 4294967170#32)

/-- The candidates, at an element. -/
theorem vcand_apply (t : FVec Ideal S12x64x160 .f32) (e : Fin 12) (n : Fin 64) (B : Fin 160) (k : Fin 254) :
    vcand t (ix4 e n B k) = cand (t (ix3 e n B)) k := by
  show Scalar.select (Ideal.cmp .ole (Ideal.exp2 (((vexp (ix4 e n B k)).toInt : ℝ) : EReal)) (vcol t (ix4 e n B k)))
    (IntOp.addi (vexp (ix4 e n B k)) 1#32) 4294967170#32 = _
  rw [vexp_apply, vcol_apply]
  rfl

/-- Each block's largest candidate. -/
def vmexp (t : FVec Ideal S12x64x160 .f32) : IVec S12x64x160 32 :=
  multiReductionI .maxsi [3] S12x64x160 (vcand t) 2147483648#32 reduces_S12x64x160x254_S12x64x160 rfl

/-- Each block's largest candidate, at an element. -/
theorem vmexp_apply (t : FVec Ideal S12x64x160 .f32) (e : Fin 12) (n : Fin 64) (B : Fin 160) :
    vmexp t (ix3 e n B) = mexp (t (ix3 e n B)) := by
  unfold vmexp mexp
  refine (multiReductionI_eq_fold .maxsi (vcand t) _ _ _ _).trans ?_
  refine (reduces_S12x64x160x254_S12x64x160.fold_filter_drop_single _ _ (vcand t) (ix3 e n B)).trans ?_
  refine Finset.fold_congr fun k _ => ?_
  have h : reduces_S12x64x160x254_S12x64x160.lift (ix3 e n B) k = ix4 e n B k := by
    funext a; apply Fin.ext
    match a with
    | ⟨0, _⟩ => rfl
    | ⟨1, _⟩ => rfl
    | ⟨2, _⟩ => rfl
    | ⟨3, _⟩ => rfl
  exact (congrArg (vcand t) h).trans (vcand_apply t e n B k)

/-- The exponents, from the maxima and the candidates. -/
theorem pay3_eq (a0 : Vec Ideal S12x64x5120 .bf16) :
    k0_pay3 (F := Ideal) a0 = select (cmpf .oeq (vmax a0) (broadcast S12x64x160 (Scalar.ofBits .f32 0x00000000#32)))
      (broadcast S12x64x160 0#32) (vmexp (mulf (vmax a0) (broadcast S12x64x160 (Scalar.ofBits .f32 0x3B124925#32)))) := by
  unfold k0_pay3 vmexp vcand vcol vexp vmax
  with_reducible rfl

/-- A choice on whether a vector is zero, at one position. -/
theorem sel_point (v : FVec Ideal S12x64x160 .f32) (w : IVec S12x64x160 32) (j : S12x64x160.Idx) :
    select (cmpf .oeq v (broadcast S12x64x160 (Scalar.ofBits .f32 0x00000000#32))) (broadcast S12x64x160 0#32) w j
      = Scalar.select (Ideal.cmp .oeq (v j) (Ideal.ofBits .f32 0x00000000#32)) 0#32 (w j) := rfl

/-- A product with a constant, at one position. -/
theorem mul_point (v : FVec Ideal S12x64x160 .f32) (j : S12x64x160.Idx) :
    mulf v (broadcast S12x64x160 (Scalar.ofBits .f32 0x3B124925#32)) j = (v j : EReal) * Ideal.ofBits .f32 0x3B124925#32 := rfl

/-- Each block's exponent. -/
theorem pay3_apply (a0 : Vec Ideal S12x64x5120 .bf16) (e : Fin 12) (n : Fin 64) (B : Fin 160) :
    k0_pay3 (F := Ideal) a0 (ix3 e n B) = rexp (vmax a0 (ix3 e n B)) := by
  rw [pay3_eq]
  refine (sel_point _ _ _).trans ?_
  rw [vmexp_apply, mul_point]
  rw [ofBits_inv448, show Ideal.ofBits .f32 0x00000000#32 = 0 from by simp [Ideal.ofBits, Ideal.ieee]]
  rfl

/-- Each block's scale. -/
theorem pay5_apply (a0 : Vec Ideal S12x64x5120 .bf16) (e : Fin 12) (n : Fin 64) (B : Fin 160) :
    k0_pay5 (F := Ideal) a0 (ix3 e n B)
      = (((IntOp.subi (BitVec.setWidth 32 (BitVec.setWidth 8 (IntOp.addi (rexp (vmax a0 (ix3 e n B))) 127#32))) 127#32).toInt : ℝ) : EReal) := by
  unfold k0_pay5
  pointwise
  rw [pay3_apply]
  rfl

/-- Each activation scaled and clipped. -/
theorem pay4_apply (a0 : Vec Ideal S12x64x5120 .bf16) (e : Fin 12) (n : Fin 64) (D : Fin 5120) :
    k0_pay4 (F := Ideal) a0 (ix3 e n D)
      = min (Ideal.ofBits .f32 0x43E00000#32) (max (Ideal.ofBits .f32 0xC3E00000#32)
          ((a0 (ix3 e n D) : EReal) * Ideal.exp2 (((IntOp.subi 0#32 (rexp (vmax a0 (ix3 e n ⟨D.val / 32, by omega⟩)))).toInt : ℝ) : EReal))) := by
  unfold k0_pay4
  pointwise
  rw [pay3_apply, pay2_apply]
  have h : (⟨D.val / 32 * 32 + D.val % 32, by omega⟩ : Fin 5120) = D := Fin.ext (by show D.val / 32 * 32 + D.val % 32 = D.val; omega)
  simp only [h]
  rfl

/-- Quantised and dequantised, an activation in range is itself. -/
theorem quant_id (a0 : Vec Ideal S12x64x5120 .bf16) (hx : ∀ j, Small (a0 j)) (e : Fin 12) (n : Fin 64) (D : Fin 5120) :
    k0_pay4 (F := Ideal) a0 (ix3 e n D) * Ideal.exp2 (k0_pay5 (F := Ideal) a0 (ix3 e n ⟨D.val / 32, by omega⟩)) = (a0 (ix3 e n D) : EReal) := by
  rw [pay4_apply, pay5_apply]
  choose f hf hB using hx
  obtain ⟨a, ha, hle, hall⟩ := fold_max_abs (n := 32) (by norm_num)
    (fun q => f (ix3 e n ⟨D.val / 32 * 32 + q.val, by omega⟩)) big (fun q => hB _)
  have hm : vmax a0 (ix3 e n ⟨D.val / 32, by omega⟩) = (a : EReal) := by
    rw [vmax_apply, ← ha]
    refine Finset.fold_congr fun q _ => ?_
    rw [hf]
  have h : (⟨D.val / 32 * 32 + D.val % 32, by omega⟩ : Fin 5120) = D := Fin.ext (by show D.val / 32 * 32 + D.val % 32 = D.val; omega)
  have hD := hall ⟨D.val % 32, by omega⟩
  dsimp only at hD
  rw [h] at hD
  rw [hm, hf]
  exact rquant_eq _ a hD hle

/-- The reference's result at an element: the sum over the columns where the row lies in its group, zero elsewhere. -/
theorem result_apply (a0 : Vec Ideal S12x64x5120 .bf16) (a1 : Vec Ideal S12 .i32) (a2 : Vec Ideal S12x3072x5120 .fp8e4m3)
    (a3 : Vec Ideal S12x3072x160 .i8) (hx : ∀ j, Small (a0 j)) (e : Fin 12) (n : Fin 64) (o : Fin 3072) :
    k0_pay1 (F := Ideal) (k0_pay4 a0) (k0_pay5 a0) a2 a3 a1 (ix3 e n o)
      = Scalar.select (IntOp.cmpi .slt (BitVec.ofNat 32 n.val) (a1 (ix1 e)))
          (∑ D : Fin 5120, (a0 (ix3 e n D) : EReal) * ((a2 (ix3 e o D) : EReal)
            * p2 (((a3 (ix3 e o ⟨D.val / 32, by omega⟩) : BitVec 8).toNat : ℤ) - 127))) 0 := by
  unfold k0_pay1
  pointwise
  refine congrArg (fun s => Scalar.select _ s _) (Finset.sum_congr rfl fun D _ => ?_)
  rw [← byte_exp]
  exact congrArg (· * _) (quant_id a0 hx e n D)

end Cert.Proof.ReferenceIdeal

end

end
-- ==== Proof.Bounds.lean ====
/- What the precondition says of the arguments, element by element. -/
module

public import proofs.«01_k».proof.Defs
public import proofs.«01_k».proof.Proof.Gen.Pre_in_range
public import proofs.«01_k».proof.Proof.Quant

@[expose] public section

set_option maxRecDepth 8192

noncomputable section

namespace Cert.Proof.Bounds

open Cert.Pre_in_range Cert.Pre_in_range.Gen
open Idealize.ShloMosaic
open Cert.Proof.Quant

/-- The largest finite bf16. -/
theorem ofBits_big : Ideal.ofBits .bf16 0x7F7F#16 = ((big : ℝ) : EReal) := by
  unfold big
  simp [Ideal.ofBits, Ideal.ieee]

/-- A magnitude at most the largest finite bf16 is a real number's. -/
theorem small_of_le (x : EReal) (h : max x (-x) ≤ ((big : ℝ) : EReal)) : Small x := by
  induction x with
  | bot => exact absurd (le_trans (le_max_right _ _) h) (by simp)
  | top => exact absurd (le_trans (le_max_left _ _) h) (by simp)
  | coe r =>
    refine ⟨r, rfl, abs_le'.2 ⟨?_, ?_⟩⟩
    · exact EReal.coe_le_coe_iff.1 (le_trans (le_max_left _ _) h)
    · exact EReal.coe_le_coe_iff.1 (le_trans (le_max_right _ _) h)

/-- The activations are in range. -/
theorem act_of (a0 : FVec Ideal S12x64x5120 .bf16) (a1 : IVec S12 32) (a2 : FVec Ideal S12x3072x5120 .fp8e4m3) (a3 : IVec S12x3072x160 8)
    (h : (fn (F := Ideal) a0 a1 a2 a3).1 = fun _ => 1#1) (j : S12x64x5120.Idx) : Small (a0 j) := by
  have h1 : Ideal.cmp .ole (max (a0 j : EReal) (-(a0 j : EReal))) (Ideal.ofBits .bf16 0x7F7F#16) = 1#1 := congrFun h j
  rw [ofBits_big] at h1
  refine small_of_le _ ?_
  by_contra hn
  simp [Ideal.cmp, hn] at h1

/-- No size is negative. -/
theorem size_of (a0 : FVec Ideal S12x64x5120 .bf16) (a1 : IVec S12 32) (a2 : FVec Ideal S12x3072x5120 .fp8e4m3) (a3 : IVec S12x3072x160 8)
    (h : (fn (F := Ideal) a0 a1 a2 a3).2.1 = fun _ => 1#1) (j : S12.Idx) : 0 ≤ (a1 j).toInt := by
  have h1 : IntOp.cmpi .sge (a1 j) 0#32 = 1#1 := congrFun h j
  by_contra hn
  have : (BitVec.sle 0#32 (a1 j)) = false := by
    rw [BitVec.sle_eq_decide]; simpa using hn
  simp [IntOp.cmpi, this] at h1

/-- The scale bytes lie from 1 to 254. -/
theorem byte_of (a0 : FVec Ideal S12x64x5120 .bf16) (a1 : IVec S12 32) (a2 : FVec Ideal S12x3072x5120 .fp8e4m3) (a3 : IVec S12x3072x160 8)
    (h : (fn (F := Ideal) a0 a1 a2 a3).2.2 = fun _ => 1#1) (j : S12x3072x160.Idx) : 1 ≤ (a3 j).toNat ∧ (a3 j).toNat ≤ 254 := by
  have h1 : IntOp.andi (IntOp.cmpi .uge (a3 j) 1#8) (IntOp.cmpi .ule (a3 j) 254#8) = 1#1 := congrFun h j
  have key : ∀ b : BitVec 8, IntOp.andi (IntOp.cmpi .uge b 1#8) (IntOp.cmpi .ule b 254#8) = 1#1 → 1 ≤ b.toNat ∧ b.toNat ≤ 254 := by decide +kernel
  exact key _ h1

end Cert.Proof.Bounds

end
-- ==== Proof.lean ====
module

public import proofs.«01_k».proof.Defs
public import proofs.«01_k».proof.Proof.Gen.ReferenceIdeal.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_in_range
public import proofs.«01_k».proof.Proof.KernelRun
public import proofs.«01_k».proof.Proof.IdealRun
public import proofs.«01_k».proof.Proof.IdealValue
public import proofs.«01_k».proof.Proof.RefValue
public import proofs.«01_k».proof.Proof.Bounds

@[expose] public section

noncomputable section

namespace Cert.Proof

open Idealize.ShloMosaic Idealize.SL.Sem

/-- The precondition, element by element. -/
theorem inRange (m : (ℓ : Loc Cert.KernelIdeal.nD Cert.KernelIdeal.τ Cert.KernelIdeal.sig) → Buf (Elt Ideal) ℓ)
    (h : Cert.Pre_KernelIdeal_in_range (hPre_in_range := Cert.Pre_in_range.Gen.facts) m) : KernelIdeal.InRange m where
  act c j := Bounds.act_of _ _ _ _ (h c).1 j
  size c j := Bounds.size_of _ _ _ _ (h c).2.1 j
  byte c j := Bounds.byte_of _ _ _ _ (h c).2.2 j

/-- The reference's result is the kernel's. -/
theorem same (m : (ℓ : Loc Cert.KernelIdeal.nD Cert.KernelIdeal.τ Cert.KernelIdeal.sig) → Buf (Elt Ideal) ℓ)
    (h : KernelIdeal.InRange m) (c : Dev Cert.KernelIdeal.nD) :
    Cert.ReferenceIdeal.Value.G4 (F := Ideal) (KernelIdeal.X0 m c) (KernelIdeal.X1 m c) (KernelIdeal.X2 m c) (KernelIdeal.X3 m c)
      = KernelIdeal.R m c := by
  refine funext fun (j : Cert.KernelIdeal.S12x64x3072.Idx) => ?_
  have hj : j = ix3 (j 0) (j 1) (j 2) := by
    funext a; apply Fin.ext
    match a with
    | ⟨0, _⟩ => rfl
    | ⟨1, _⟩ => rfl
    | ⟨2, _⟩ => rfl
  refine (congrArg (Cert.ReferenceIdeal.Value.G4 (F := Ideal) (KernelIdeal.X0 m c) (KernelIdeal.X1 m c) (KernelIdeal.X2 m c) (KernelIdeal.X3 m c)) hj).trans ?_
  exact ReferenceIdeal.result_apply (KernelIdeal.X0 m c) (KernelIdeal.X1 m c) (KernelIdeal.X2 m c) (KernelIdeal.X3 m c) (h.act c) (j 0) (j 1) (j 2)

/-- The idealized kernel and the reference, run from the same arguments in range, end with the same result. -/
theorem equal : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hp ha
  have h := inRange m hp
  refine ⟨KernelIdeal.R m, KernelIdeal.value m g h, ?_⟩
  refine (θ_run _ _ _).mono (fun r hr c => ?_) (Cert.ReferenceIdeal.Value.run m' g')
  obtain ⟨h0, h1⟩ := hr c
  refine ⟨h0.trans ?_, h1⟩
  obtain ⟨e0, e1, e2, e3⟩ := ha c
  rw [e0, e1, e2, e3]
  exact same m h c

/-- Every claim of the certificate. -/
theorem claim : Cert.Claim :=
  ⟨Cert.Kernel.Gen.facts, Cert.KernelIdeal.Gen.facts, Cert.ReferenceIdeal.Gen.facts, Cert.Pre_in_range.Gen.facts,
    fun m g _ => Kernel.frame m g,
    fun m g _ => KernelIdeal.frame m g,
    fun m g _ => KernelIdeal.frame m g,
    fun m g _ => Cert.ReferenceIdeal.Gen.frame m g,
    fun m g _ => Cert.ReferenceIdeal.Gen.frame m g,
    trivial,
    equal⟩

end Cert.Proof

end
